-- ==== Defs.lean ====
def Pre_Wquant (m : (ℓ : Loc Cert.Wquant.nD Cert.Wquant.τ Cert.Wquant.sig) → Buf (Elt Bits) ℓ) : Prop :=
  True

def Pre_WquantIdeal (m : (ℓ : Loc Cert.WquantIdeal.nD Cert.WquantIdeal.τ Cert.WquantIdeal.sig) → Buf (Elt Ideal) ℓ) : Prop :=
  True

def Pre_WquantIdeal_w_range [hPre_w_range : Cert.Pre_w_range.Facts] (m : (ℓ : Loc Cert.WquantIdeal.nD Cert.WquantIdeal.τ Cert.WquantIdeal.sig) → Buf (Elt Ideal) ℓ) : Prop :=
  ∀ c : Dev Cert.WquantIdeal.nD,
    (Cert.Pre_w_range.fn (F := Ideal) (m ((c.tc : Thread Cert.WquantIdeal.nD Cert.WquantIdeal.τ).loc Cert.WquantIdeal.main_arg0))) = (fun _ => 1#1)

def Pre_WquantRefIdeal (m : (ℓ : Loc Cert.WquantRefIdeal.nD Cert.WquantRefIdeal.τ Cert.WquantRefIdeal.sig) → Buf (Elt Ideal) ℓ) : Prop :=
  True

def Pre_WquantRefIdeal_w_range [hPre_w_range : Cert.Pre_w_range.Facts] (m : (ℓ : Loc Cert.WquantRefIdeal.nD Cert.WquantRefIdeal.τ Cert.WquantRefIdeal.sig) → Buf (Elt Ideal) ℓ) : Prop :=
  ∀ c : Dev Cert.WquantRefIdeal.nD,
    (Cert.Pre_w_range.fn (F := Ideal) (m ((c.tc : Thread Cert.WquantRefIdeal.nD Cert.WquantRefIdeal.τ).loc Cert.WquantRefIdeal.main_arg0))) = (fun _ => 1#1)

def Pre_Fwd (m : (ℓ : Loc Cert.Fwd.nD Cert.Fwd.τ Cert.Fwd.sig) → Buf (Elt Bits) ℓ) : Prop :=
  True

def Pre_FwdIdeal (m : (ℓ : Loc Cert.FwdIdeal.nD Cert.FwdIdeal.τ Cert.FwdIdeal.sig) → Buf (Elt Ideal) ℓ) : Prop :=
  True

def Pre_FwdIdeal_x_range [hPre_x_range : Cert.Pre_x_range.Facts] (m : (ℓ : Loc Cert.FwdIdeal.nD Cert.FwdIdeal.τ Cert.FwdIdeal.sig) → Buf (Elt Ideal) ℓ) : Prop :=
  ∀ c : Dev Cert.FwdIdeal.nD,
    (Cert.Pre_x_range.fn (F := Ideal) (m ((c.tc : Thread Cert.FwdIdeal.nD Cert.FwdIdeal.τ).loc Cert.FwdIdeal.main_arg0)) (m ((c.tc : Thread Cert.FwdIdeal.nD Cert.FwdIdeal.τ).loc Cert.FwdIdeal.main_arg1)) (m ((c.tc : Thread Cert.FwdIdeal.nD Cert.FwdIdeal.τ).loc Cert.FwdIdeal.main_arg2))) = (fun _ => 1#1)

def Pre_FwdRefIdeal (m : (ℓ : Loc Cert.FwdRefIdeal.nD Cert.FwdRefIdeal.τ Cert.FwdRefIdeal.sig) → Buf (Elt Ideal) ℓ) : Prop :=
  True

def Pre_FwdRefIdeal_x_range [hPre_x_range : Cert.Pre_x_range.Facts] (m : (ℓ : Loc Cert.FwdRefIdeal.nD Cert.FwdRefIdeal.τ Cert.FwdRefIdeal.sig) → Buf (Elt Ideal) ℓ) : Prop :=
  ∀ c : Dev Cert.FwdRefIdeal.nD,
    (Cert.Pre_x_range.fn (F := Ideal) (m ((c.tc : Thread Cert.FwdRefIdeal.nD Cert.FwdRefIdeal.τ).loc Cert.FwdRefIdeal.main_arg0)) (m ((c.tc : Thread Cert.FwdRefIdeal.nD Cert.FwdRefIdeal.τ).loc Cert.FwdRefIdeal.main_arg1)) (m ((c.tc : Thread Cert.FwdRefIdeal.nD Cert.FwdRefIdeal.τ).loc Cert.FwdRefIdeal.main_arg2))) = (fun _ => 1#1)

def Pre_Dx (m : (ℓ : Loc Cert.Dx.nD Cert.Dx.τ Cert.Dx.sig) → Buf (Elt Bits) ℓ) : Prop :=
  True

def Pre_DxIdeal (m : (ℓ : Loc Cert.DxIdeal.nD Cert.DxIdeal.τ Cert.DxIdeal.sig) → Buf (Elt Ideal) ℓ) : Prop :=
  True

def Pre_DxIdeal_dy_range [hPre_dy_range : Cert.Pre_dy_range.Facts] (m : (ℓ : Loc Cert.DxIdeal.nD Cert.DxIdeal.τ Cert.DxIdeal.sig) → Buf (Elt Ideal) ℓ) : Prop :=
  ∀ c : Dev Cert.DxIdeal.nD,
    (Cert.Pre_dy_range.fn (F := Ideal) (m ((c.tc : Thread Cert.DxIdeal.nD Cert.DxIdeal.τ).loc Cert.DxIdeal.main_arg0)) (m ((c.tc : Thread Cert.DxIdeal.nD Cert.DxIdeal.τ).loc Cert.DxIdeal.main_arg1)) (m ((c.tc : Thread Cert.DxIdeal.nD Cert.DxIdeal.τ).loc Cert.DxIdeal.main_arg2))) = (fun _ => 1#1)

def Pre_DxRefIdeal (m : (ℓ : Loc Cert.DxRefIdeal.nD Cert.DxRefIdeal.τ Cert.DxRefIdeal.sig) → Buf (Elt Ideal) ℓ) : Prop :=
  True

def Pre_DxRefIdeal_dy_range [hPre_dy_range : Cert.Pre_dy_range.Facts] (m : (ℓ : Loc Cert.DxRefIdeal.nD Cert.DxRefIdeal.τ Cert.DxRefIdeal.sig) → Buf (Elt Ideal) ℓ) : Prop :=
  ∀ c : Dev Cert.DxRefIdeal.nD,
    (Cert.Pre_dy_range.fn (F := Ideal) (m ((c.tc : Thread Cert.DxRefIdeal.nD Cert.DxRefIdeal.τ).loc Cert.DxRefIdeal.main_arg0)) (m ((c.tc : Thread Cert.DxRefIdeal.nD Cert.DxRefIdeal.τ).loc Cert.DxRefIdeal.main_arg1)) (m ((c.tc : Thread Cert.DxRefIdeal.nD Cert.DxRefIdeal.τ).loc Cert.DxRefIdeal.main_arg2))) = (fun _ => 1#1)

def quiescent_Wquant [hWquant : Cert.Wquant.Facts] : Prop :=
  ∀ (m : (ℓ : Loc Cert.Wquant.nD Cert.Wquant.τ Cert.Wquant.sig) → Buf (Elt Bits) ℓ) (g : Dev Cert.Wquant.nD → PrngReg), Pre_Wquant m →
    θ_run (Cert.Wquant.defs (F := Bits)) (onTc (τ := Cert.Wquant.τ) (Cert.Wquant.main (F := Bits))) ⟨m, fun _ => 0, g⟩ (fun r => (∀ c : Dev Cert.Wquant.nD,
      r.2.mem ((c.tc : Thread Cert.Wquant.nD Cert.Wquant.τ).loc Cert.Wquant.main_arg0) = m ((c.tc : Thread Cert.Wquant.nD Cert.Wquant.τ).loc Cert.Wquant.main_arg0))
      ∧ r.2.sem = fun _ => 0)

def quiescent_WquantIdeal [hWquantIdeal : Cert.WquantIdeal.Facts] : Prop :=
  ∀ (m : (ℓ : Loc Cert.WquantIdeal.nD Cert.WquantIdeal.τ Cert.WquantIdeal.sig) → Buf (Elt Ideal) ℓ) (g : Dev Cert.WquantIdeal.nD → PrngReg), Pre_WquantIdeal m →
    θ_run (Cert.WquantIdeal.defs (F := Ideal)) (onTc (τ := Cert.WquantIdeal.τ) (Cert.WquantIdeal.main (F := Ideal))) ⟨m, fun _ => 0, g⟩ (fun r => (∀ c : Dev Cert.WquantIdeal.nD,
      r.2.mem ((c.tc : Thread Cert.WquantIdeal.nD Cert.WquantIdeal.τ).loc Cert.WquantIdeal.main_arg0) = m ((c.tc : Thread Cert.WquantIdeal.nD Cert.WquantIdeal.τ).loc Cert.WquantIdeal.main_arg0))
      ∧ r.2.sem = fun _ => 0)

def quiescent_WquantIdeal_pre_w_range [hWquantIdeal : Cert.WquantIdeal.Facts] [hPre_w_range : Cert.Pre_w_range.Facts] : Prop :=
  ∀ (m : (ℓ : Loc Cert.WquantIdeal.nD Cert.WquantIdeal.τ Cert.WquantIdeal.sig) → Buf (Elt Ideal) ℓ) (g : Dev Cert.WquantIdeal.nD → PrngReg), Pre_WquantIdeal_w_range m →
    θ_run (Cert.WquantIdeal.defs (F := Ideal)) (onTc (τ := Cert.WquantIdeal.τ) (Cert.WquantIdeal.main (F := Ideal))) ⟨m, fun _ => 0, g⟩ (fun r => (∀ c : Dev Cert.WquantIdeal.nD,
      r.2.mem ((c.tc : Thread Cert.WquantIdeal.nD Cert.WquantIdeal.τ).loc Cert.WquantIdeal.main_arg0) = m ((c.tc : Thread Cert.WquantIdeal.nD Cert.WquantIdeal.τ).loc Cert.WquantIdeal.main_arg0))
      ∧ r.2.sem = fun _ => 0)

def quiescent_WquantRefIdeal [hWquantRefIdeal : Cert.WquantRefIdeal.Facts] : Prop :=
  ∀ (m : (ℓ : Loc Cert.WquantRefIdeal.nD Cert.WquantRefIdeal.τ Cert.WquantRefIdeal.sig) → Buf (Elt Ideal) ℓ) (g : Dev Cert.WquantRefIdeal.nD → PrngReg), Pre_WquantRefIdeal m →
    θ_run (Cert.WquantRefIdeal.defs (F := Ideal)) (onTc (τ := Cert.WquantRefIdeal.τ) (Cert.WquantRefIdeal.main (F := Ideal))) ⟨m, fun _ => 0, g⟩ (fun r => (∀ c : Dev Cert.WquantRefIdeal.nD,
      r.2.mem ((c.tc : Thread Cert.WquantRefIdeal.nD Cert.WquantRefIdeal.τ).loc Cert.WquantRefIdeal.main_arg0) = m ((c.tc : Thread Cert.WquantRefIdeal.nD Cert.WquantRefIdeal.τ).loc Cert.WquantRefIdeal.main_arg0))
      ∧ r.2.sem = fun _ => 0)

def quiescent_WquantRefIdeal_pre_w_range [hWquantRefIdeal : Cert.WquantRefIdeal.Facts] [hPre_w_range : Cert.Pre_w_range.Facts] : Prop :=
  ∀ (m : (ℓ : Loc Cert.WquantRefIdeal.nD Cert.WquantRefIdeal.τ Cert.WquantRefIdeal.sig) → Buf (Elt Ideal) ℓ) (g : Dev Cert.WquantRefIdeal.nD → PrngReg), Pre_WquantRefIdeal_w_range m →
    θ_run (Cert.WquantRefIdeal.defs (F := Ideal)) (onTc (τ := Cert.WquantRefIdeal.τ) (Cert.WquantRefIdeal.main (F := Ideal))) ⟨m, fun _ => 0, g⟩ (fun r => (∀ c : Dev Cert.WquantRefIdeal.nD,
      r.2.mem ((c.tc : Thread Cert.WquantRefIdeal.nD Cert.WquantRefIdeal.τ).loc Cert.WquantRefIdeal.main_arg0) = m ((c.tc : Thread Cert.WquantRefIdeal.nD Cert.WquantRefIdeal.τ).loc Cert.WquantRefIdeal.main_arg0))
      ∧ r.2.sem = fun _ => 0)

def quiescent_Fwd [hFwd : Cert.Fwd.Facts] : Prop :=
  ∀ (m : (ℓ : Loc Cert.Fwd.nD Cert.Fwd.τ Cert.Fwd.sig) → Buf (Elt Bits) ℓ) (g : Dev Cert.Fwd.nD → PrngReg), Pre_Fwd m →
    θ_run (Cert.Fwd.defs (F := Bits)) (onTc (τ := Cert.Fwd.τ) (Cert.Fwd.main (F := Bits))) ⟨m, fun _ => 0, g⟩ (fun r => (∀ c : Dev Cert.Fwd.nD,
      r.2.mem ((c.tc : Thread Cert.Fwd.nD Cert.Fwd.τ).loc Cert.Fwd.main_arg0) = m ((c.tc : Thread Cert.Fwd.nD Cert.Fwd.τ).loc Cert.Fwd.main_arg0)
      ∧ r.2.mem ((c.tc : Thread Cert.Fwd.nD Cert.Fwd.τ).loc Cert.Fwd.main_arg1) = m ((c.tc : Thread Cert.Fwd.nD Cert.Fwd.τ).loc Cert.Fwd.main_arg1)
      ∧ r.2.mem ((c.tc : Thread Cert.Fwd.nD Cert.Fwd.τ).loc Cert.Fwd.main_arg2) = m ((c.tc : Thread Cert.Fwd.nD Cert.Fwd.τ).loc Cert.Fwd.main_arg2))
      ∧ r.2.sem = fun _ => 0)

def quiescent_FwdIdeal [hFwdIdeal : Cert.FwdIdeal.Facts] : Prop :=
  ∀ (m : (ℓ : Loc Cert.FwdIdeal.nD Cert.FwdIdeal.τ Cert.FwdIdeal.sig) → Buf (Elt Ideal) ℓ) (g : Dev Cert.FwdIdeal.nD → PrngReg), Pre_FwdIdeal m →
    θ_run (Cert.FwdIdeal.defs (F := Ideal)) (onTc (τ := Cert.FwdIdeal.τ) (Cert.FwdIdeal.main (F := Ideal))) ⟨m, fun _ => 0, g⟩ (fun r => (∀ c : Dev Cert.FwdIdeal.nD,
      r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
      ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
      ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2))
      ∧ r.2.sem = fun _ => 0)

def quiescent_FwdIdeal_pre_x_range [hFwdIdeal : Cert.FwdIdeal.Facts] [hPre_x_range : Cert.Pre_x_range.Facts] : Prop :=
  ∀ (m : (ℓ : Loc Cert.FwdIdeal.nD Cert.FwdIdeal.τ Cert.FwdIdeal.sig) → Buf (Elt Ideal) ℓ) (g : Dev Cert.FwdIdeal.nD → PrngReg), Pre_FwdIdeal_x_range m →
    θ_run (Cert.FwdIdeal.defs (F := Ideal)) (onTc (τ := Cert.FwdIdeal.τ) (Cert.FwdIdeal.main (F := Ideal))) ⟨m, fun _ => 0, g⟩ (fun r => (∀ c : Dev Cert.FwdIdeal.nD,
      r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
      ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
      ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2))
      ∧ r.2.sem = fun _ => 0)

def quiescent_FwdRefIdeal [hFwdRefIdeal : Cert.FwdRefIdeal.Facts] : Prop :=
  ∀ (m : (ℓ : Loc Cert.FwdRefIdeal.nD Cert.FwdRefIdeal.τ Cert.FwdRefIdeal.sig) → Buf (Elt Ideal) ℓ) (g : Dev Cert.FwdRefIdeal.nD → PrngReg), Pre_FwdRefIdeal m →
    θ_run (Cert.FwdRefIdeal.defs (F := Ideal)) (onTc (τ := Cert.FwdRefIdeal.τ) (Cert.FwdRefIdeal.main (F := Ideal))) ⟨m, fun _ => 0, g⟩ (fun r => (∀ c : Dev Cert.FwdRefIdeal.nD,
      r.2.mem ((c.tc : Thread Cert.FwdRefIdeal.nD Cert.FwdRefIdeal.τ).loc Cert.FwdRefIdeal.main_arg0) = m ((c.tc : Thread Cert.FwdRefIdeal.nD Cert.FwdRefIdeal.τ).loc Cert.FwdRefIdeal.main_arg0)
      ∧ r.2.mem ((c.tc : Thread Cert.FwdRefIdeal.nD Cert.FwdRefIdeal.τ).loc Cert.FwdRefIdeal.main_arg1) = m ((c.tc : Thread Cert.FwdRefIdeal.nD Cert.FwdRefIdeal.τ).loc Cert.FwdRefIdeal.main_arg1)
      ∧ r.2.mem ((c.tc : Thread Cert.FwdRefIdeal.nD Cert.FwdRefIdeal.τ).loc Cert.FwdRefIdeal.main_arg2) = m ((c.tc : Thread Cert.FwdRefIdeal.nD Cert.FwdRefIdeal.τ).loc Cert.FwdRefIdeal.main_arg2))
      ∧ r.2.sem = fun _ => 0)

def quiescent_FwdRefIdeal_pre_x_range [hFwdRefIdeal : Cert.FwdRefIdeal.Facts] [hPre_x_range : Cert.Pre_x_range.Facts] : Prop :=
  ∀ (m : (ℓ : Loc Cert.FwdRefIdeal.nD Cert.FwdRefIdeal.τ Cert.FwdRefIdeal.sig) → Buf (Elt Ideal) ℓ) (g : Dev Cert.FwdRefIdeal.nD → PrngReg), Pre_FwdRefIdeal_x_range m →
    θ_run (Cert.FwdRefIdeal.defs (F := Ideal)) (onTc (τ := Cert.FwdRefIdeal.τ) (Cert.FwdRefIdeal.main (F := Ideal))) ⟨m, fun _ => 0, g⟩ (fun r => (∀ c : Dev Cert.FwdRefIdeal.nD,
      r.2.mem ((c.tc : Thread Cert.FwdRefIdeal.nD Cert.FwdRefIdeal.τ).loc Cert.FwdRefIdeal.main_arg0) = m ((c.tc : Thread Cert.FwdRefIdeal.nD Cert.FwdRefIdeal.τ).loc Cert.FwdRefIdeal.main_arg0)
      ∧ r.2.mem ((c.tc : Thread Cert.FwdRefIdeal.nD Cert.FwdRefIdeal.τ).loc Cert.FwdRefIdeal.main_arg1) = m ((c.tc : Thread Cert.FwdRefIdeal.nD Cert.FwdRefIdeal.τ).loc Cert.FwdRefIdeal.main_arg1)
      ∧ r.2.mem ((c.tc : Thread Cert.FwdRefIdeal.nD Cert.FwdRefIdeal.τ).loc Cert.FwdRefIdeal.main_arg2) = m ((c.tc : Thread Cert.FwdRefIdeal.nD Cert.FwdRefIdeal.τ).loc Cert.FwdRefIdeal.main_arg2))
      ∧ r.2.sem = fun _ => 0)

def quiescent_Dx [hDx : Cert.Dx.Facts] : Prop :=
  ∀ (m : (ℓ : Loc Cert.Dx.nD Cert.Dx.τ Cert.Dx.sig) → Buf (Elt Bits) ℓ) (g : Dev Cert.Dx.nD → PrngReg), Pre_Dx m →
    θ_run (Cert.Dx.defs (F := Bits)) (onTc (τ := Cert.Dx.τ) (Cert.Dx.main (F := Bits))) ⟨m, fun _ => 0, g⟩ (fun r => (∀ c : Dev Cert.Dx.nD,
      r.2.mem ((c.tc : Thread Cert.Dx.nD Cert.Dx.τ).loc Cert.Dx.main_arg0) = m ((c.tc : Thread Cert.Dx.nD Cert.Dx.τ).loc Cert.Dx.main_arg0)
      ∧ r.2.mem ((c.tc : Thread Cert.Dx.nD Cert.Dx.τ).loc Cert.Dx.main_arg1) = m ((c.tc : Thread Cert.Dx.nD Cert.Dx.τ).loc Cert.Dx.main_arg1)
      ∧ r.2.mem ((c.tc : Thread Cert.Dx.nD Cert.Dx.τ).loc Cert.Dx.main_arg2) = m ((c.tc : Thread Cert.Dx.nD Cert.Dx.τ).loc Cert.Dx.main_arg2))
      ∧ r.2.sem = fun _ => 0)

def quiescent_DxIdeal [hDxIdeal : Cert.DxIdeal.Facts] : Prop :=
  ∀ (m : (ℓ : Loc Cert.DxIdeal.nD Cert.DxIdeal.τ Cert.DxIdeal.sig) → Buf (Elt Ideal) ℓ) (g : Dev Cert.DxIdeal.nD → PrngReg), Pre_DxIdeal m →
    θ_run (Cert.DxIdeal.defs (F := Ideal)) (onTc (τ := Cert.DxIdeal.τ) (Cert.DxIdeal.main (F := Ideal))) ⟨m, fun _ => 0, g⟩ (fun r => (∀ c : Dev Cert.DxIdeal.nD,
      r.2.mem ((c.tc : Thread Cert.DxIdeal.nD Cert.DxIdeal.τ).loc Cert.DxIdeal.main_arg0) = m ((c.tc : Thread Cert.DxIdeal.nD Cert.DxIdeal.τ).loc Cert.DxIdeal.main_arg0)
      ∧ r.2.mem ((c.tc : Thread Cert.DxIdeal.nD Cert.DxIdeal.τ).loc Cert.DxIdeal.main_arg1) = m ((c.tc : Thread Cert.DxIdeal.nD Cert.DxIdeal.τ).loc Cert.DxIdeal.main_arg1)
      ∧ r.2.mem ((c.tc : Thread Cert.DxIdeal.nD Cert.DxIdeal.τ).loc Cert.DxIdeal.main_arg2) = m ((c.tc : Thread Cert.DxIdeal.nD Cert.DxIdeal.τ).loc Cert.DxIdeal.main_arg2))
      ∧ r.2.sem = fun _ => 0)

def quiescent_DxIdeal_pre_dy_range [hDxIdeal : Cert.DxIdeal.Facts] [hPre_dy_range : Cert.Pre_dy_range.Facts] : Prop :=
  ∀ (m : (ℓ : Loc Cert.DxIdeal.nD Cert.DxIdeal.τ Cert.DxIdeal.sig) → Buf (Elt Ideal) ℓ) (g : Dev Cert.DxIdeal.nD → PrngReg), Pre_DxIdeal_dy_range m →
    θ_run (Cert.DxIdeal.defs (F := Ideal)) (onTc (τ := Cert.DxIdeal.τ) (Cert.DxIdeal.main (F := Ideal))) ⟨m, fun _ => 0, g⟩ (fun r => (∀ c : Dev Cert.DxIdeal.nD,
      r.2.mem ((c.tc : Thread Cert.DxIdeal.nD Cert.DxIdeal.τ).loc Cert.DxIdeal.main_arg0) = m ((c.tc : Thread Cert.DxIdeal.nD Cert.DxIdeal.τ).loc Cert.DxIdeal.main_arg0)
      ∧ r.2.mem ((c.tc : Thread Cert.DxIdeal.nD Cert.DxIdeal.τ).loc Cert.DxIdeal.main_arg1) = m ((c.tc : Thread Cert.DxIdeal.nD Cert.DxIdeal.τ).loc Cert.DxIdeal.main_arg1)
      ∧ r.2.mem ((c.tc : Thread Cert.DxIdeal.nD Cert.DxIdeal.τ).loc Cert.DxIdeal.main_arg2) = m ((c.tc : Thread Cert.DxIdeal.nD Cert.DxIdeal.τ).loc Cert.DxIdeal.main_arg2))
      ∧ r.2.sem = fun _ => 0)

def quiescent_DxRefIdeal [hDxRefIdeal : Cert.DxRefIdeal.Facts] : Prop :=
  ∀ (m : (ℓ : Loc Cert.DxRefIdeal.nD Cert.DxRefIdeal.τ Cert.DxRefIdeal.sig) → Buf (Elt Ideal) ℓ) (g : Dev Cert.DxRefIdeal.nD → PrngReg), Pre_DxRefIdeal m →
    θ_run (Cert.DxRefIdeal.defs (F := Ideal)) (onTc (τ := Cert.DxRefIdeal.τ) (Cert.DxRefIdeal.main (F := Ideal))) ⟨m, fun _ => 0, g⟩ (fun r => (∀ c : Dev Cert.DxRefIdeal.nD,
      r.2.mem ((c.tc : Thread Cert.DxRefIdeal.nD Cert.DxRefIdeal.τ).loc Cert.DxRefIdeal.main_arg0) = m ((c.tc : Thread Cert.DxRefIdeal.nD Cert.DxRefIdeal.τ).loc Cert.DxRefIdeal.main_arg0)
      ∧ r.2.mem ((c.tc : Thread Cert.DxRefIdeal.nD Cert.DxRefIdeal.τ).loc Cert.DxRefIdeal.main_arg1) = m ((c.tc : Thread Cert.DxRefIdeal.nD Cert.DxRefIdeal.τ).loc Cert.DxRefIdeal.main_arg1)
      ∧ r.2.mem ((c.tc : Thread Cert.DxRefIdeal.nD Cert.DxRefIdeal.τ).loc Cert.DxRefIdeal.main_arg2) = m ((c.tc : Thread Cert.DxRefIdeal.nD Cert.DxRefIdeal.τ).loc Cert.DxRefIdeal.main_arg2))
      ∧ r.2.sem = fun _ => 0)

def quiescent_DxRefIdeal_pre_dy_range [hDxRefIdeal : Cert.DxRefIdeal.Facts] [hPre_dy_range : Cert.Pre_dy_range.Facts] : Prop :=
  ∀ (m : (ℓ : Loc Cert.DxRefIdeal.nD Cert.DxRefIdeal.τ Cert.DxRefIdeal.sig) → Buf (Elt Ideal) ℓ) (g : Dev Cert.DxRefIdeal.nD → PrngReg), Pre_DxRefIdeal_dy_range m →
    θ_run (Cert.DxRefIdeal.defs (F := Ideal)) (onTc (τ := Cert.DxRefIdeal.τ) (Cert.DxRefIdeal.main (F := Ideal))) ⟨m, fun _ => 0, g⟩ (fun r => (∀ c : Dev Cert.DxRefIdeal.nD,
      r.2.mem ((c.tc : Thread Cert.DxRefIdeal.nD Cert.DxRefIdeal.τ).loc Cert.DxRefIdeal.main_arg0) = m ((c.tc : Thread Cert.DxRefIdeal.nD Cert.DxRefIdeal.τ).loc Cert.DxRefIdeal.main_arg0)
      ∧ r.2.mem ((c.tc : Thread Cert.DxRefIdeal.nD Cert.DxRefIdeal.τ).loc Cert.DxRefIdeal.main_arg1) = m ((c.tc : Thread Cert.DxRefIdeal.nD Cert.DxRefIdeal.τ).loc Cert.DxRefIdeal.main_arg1)
      ∧ r.2.mem ((c.tc : Thread Cert.DxRefIdeal.nD Cert.DxRefIdeal.τ).loc Cert.DxRefIdeal.main_arg2) = m ((c.tc : Thread Cert.DxRefIdeal.nD Cert.DxRefIdeal.τ).loc Cert.DxRefIdeal.main_arg2))
      ∧ r.2.sem = fun _ => 0)

def preserves_Wquant_WquantIdeal : Prop :=
  True

def algebraic_WquantIdeal_WquantRefIdeal_pre_w_range [hWquantIdeal : Cert.WquantIdeal.Facts] [hWquantRefIdeal : Cert.WquantRefIdeal.Facts] [hPre_w_range : Cert.Pre_w_range.Facts] : Prop :=
  ∀ (m : (ℓ : Loc Cert.WquantIdeal.nD Cert.WquantIdeal.τ Cert.WquantIdeal.sig) → Buf (Elt Ideal) ℓ) (g : Dev Cert.WquantIdeal.nD → PrngReg)
    (m' : (ℓ : Loc Cert.WquantRefIdeal.nD Cert.WquantRefIdeal.τ Cert.WquantRefIdeal.sig) → Buf (Elt Ideal) ℓ) (g' : Dev Cert.WquantRefIdeal.nD → PrngReg), Pre_WquantIdeal_w_range m →
    (∀ c : Dev Cert.WquantIdeal.nD,
      m' ((c.tc : Thread Cert.WquantRefIdeal.nD Cert.WquantRefIdeal.τ).loc Cert.WquantRefIdeal.main_arg0) = m ((c.tc : Thread Cert.WquantIdeal.nD Cert.WquantIdeal.τ).loc Cert.WquantIdeal.main_arg0)) →
    ∃ (v0 : (c : Dev Cert.WquantIdeal.nD) → Buf (Elt Ideal) ((c.tc : Thread Cert.WquantIdeal.nD Cert.WquantIdeal.τ).loc Cert.WquantIdeal.main_v0_0)) (v1 : (c : Dev Cert.WquantIdeal.nD) → Buf (Elt Ideal) ((c.tc : Thread Cert.WquantIdeal.nD Cert.WquantIdeal.τ).loc Cert.WquantIdeal.main_v0_1)) (v2 : (c : Dev Cert.WquantIdeal.nD) → Buf (Elt Ideal) ((c.tc : Thread Cert.WquantIdeal.nD Cert.WquantIdeal.τ).loc Cert.WquantIdeal.main_v0_2)),
      θ_run (Cert.WquantIdeal.defs (F := Ideal)) (onTc (τ := Cert.WquantIdeal.τ) (Cert.WquantIdeal.main (F := Ideal))) ⟨m, fun _ => 0, g⟩ (fun r => ∀ c : Dev Cert.WquantIdeal.nD,
          r.2.mem ((c.tc : Thread Cert.WquantIdeal.nD Cert.WquantIdeal.τ).loc Cert.WquantIdeal.main_v0_0) = v0 c
          ∧ r.2.mem ((c.tc : Thread Cert.WquantIdeal.nD Cert.WquantIdeal.τ).loc Cert.WquantIdeal.main_v0_1) = v1 c
          ∧ r.2.mem ((c.tc : Thread Cert.WquantIdeal.nD Cert.WquantIdeal.τ).loc Cert.WquantIdeal.main_v0_2) = v2 c
          ∧ r.2.mem ((c.tc : Thread Cert.WquantIdeal.nD Cert.WquantIdeal.τ).loc Cert.WquantIdeal.main_arg0) = m ((c.tc : Thread Cert.WquantIdeal.nD Cert.WquantIdeal.τ).loc Cert.WquantIdeal.main_arg0))
      ∧ θ_run (Cert.WquantRefIdeal.defs (F := Ideal)) (onTc (τ := Cert.WquantRefIdeal.τ) (Cert.WquantRefIdeal.main (F := Ideal))) ⟨m', fun _ => 0, g'⟩ (fun r => ∀ c : Dev Cert.WquantRefIdeal.nD,
          r.2.mem ((c.tc : Thread Cert.WquantRefIdeal.nD Cert.WquantRefIdeal.τ).loc Cert.WquantRefIdeal.main_v0_0) = v0 c
          ∧ r.2.mem ((c.tc : Thread Cert.WquantRefIdeal.nD Cert.WquantRefIdeal.τ).loc Cert.WquantRefIdeal.main_v0_1) = v1 c
          ∧ r.2.mem ((c.tc : Thread Cert.WquantRefIdeal.nD Cert.WquantRefIdeal.τ).loc Cert.WquantRefIdeal.main_v0_2) = v2 c
          ∧ r.2.mem ((c.tc : Thread Cert.WquantRefIdeal.nD Cert.WquantRefIdeal.τ).loc Cert.WquantRefIdeal.main_arg0) = m' ((c.tc : Thread Cert.WquantRefIdeal.nD Cert.WquantRefIdeal.τ).loc Cert.WquantRefIdeal.main_arg0))

def preserves_Fwd_FwdIdeal : Prop :=
  True

def algebraic_FwdIdeal_FwdRefIdeal_pre_x_range [hFwdIdeal : Cert.FwdIdeal.Facts] [hFwdRefIdeal : Cert.FwdRefIdeal.Facts] [hPre_x_range : Cert.Pre_x_range.Facts] : Prop :=
  ∀ (m : (ℓ : Loc Cert.FwdIdeal.nD Cert.FwdIdeal.τ Cert.FwdIdeal.sig) → Buf (Elt Ideal) ℓ) (g : Dev Cert.FwdIdeal.nD → PrngReg)
    (m' : (ℓ : Loc Cert.FwdRefIdeal.nD Cert.FwdRefIdeal.τ Cert.FwdRefIdeal.sig) → Buf (Elt Ideal) ℓ) (g' : Dev Cert.FwdRefIdeal.nD → PrngReg), Pre_FwdIdeal_x_range m →
    (∀ c : Dev Cert.FwdIdeal.nD,
      m' ((c.tc : Thread Cert.FwdRefIdeal.nD Cert.FwdRefIdeal.τ).loc Cert.FwdRefIdeal.main_arg0) = m ((c.tc : Thread Cert.FwdIdeal.nD Cert.FwdIdeal.τ).loc Cert.FwdIdeal.main_arg0)
      ∧ m' ((c.tc : Thread Cert.FwdRefIdeal.nD Cert.FwdRefIdeal.τ).loc Cert.FwdRefIdeal.main_arg1) = m ((c.tc : Thread Cert.FwdIdeal.nD Cert.FwdIdeal.τ).loc Cert.FwdIdeal.main_arg1)
      ∧ m' ((c.tc : Thread Cert.FwdRefIdeal.nD Cert.FwdRefIdeal.τ).loc Cert.FwdRefIdeal.main_arg2) = m ((c.tc : Thread Cert.FwdIdeal.nD Cert.FwdIdeal.τ).loc Cert.FwdIdeal.main_arg2)) →
    ∃ (v0 : (c : Dev Cert.FwdIdeal.nD) → Buf (Elt Ideal) ((c.tc : Thread Cert.FwdIdeal.nD Cert.FwdIdeal.τ).loc Cert.FwdIdeal.main_v0_0)) (v1 : (c : Dev Cert.FwdIdeal.nD) → Buf (Elt Ideal) ((c.tc : Thread Cert.FwdIdeal.nD Cert.FwdIdeal.τ).loc Cert.FwdIdeal.main_v0_1)) (v2 : (c : Dev Cert.FwdIdeal.nD) → Buf (Elt Ideal) ((c.tc : Thread Cert.FwdIdeal.nD Cert.FwdIdeal.τ).loc Cert.FwdIdeal.main_v0_2)),
      θ_run (Cert.FwdIdeal.defs (F := Ideal)) (onTc (τ := Cert.FwdIdeal.τ) (Cert.FwdIdeal.main (F := Ideal))) ⟨m, fun _ => 0, g⟩ (fun r => ∀ c : Dev Cert.FwdIdeal.nD,
          r.2.mem ((c.tc : Thread Cert.FwdIdeal.nD Cert.FwdIdeal.τ).loc Cert.FwdIdeal.main_v0_0) = v0 c
          ∧ r.2.mem ((c.tc : Thread Cert.FwdIdeal.nD Cert.FwdIdeal.τ).loc Cert.FwdIdeal.main_v0_1) = v1 c
          ∧ r.2.mem ((c.tc : Thread Cert.FwdIdeal.nD Cert.FwdIdeal.τ).loc Cert.FwdIdeal.main_v0_2) = v2 c
          ∧ r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
          ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
          ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2))
      ∧ θ_run (Cert.FwdRefIdeal.defs (F := Ideal)) (onTc (τ := Cert.FwdRefIdeal.τ) (Cert.FwdRefIdeal.main (F := Ideal))) ⟨m', fun _ => 0, g'⟩ (fun r => ∀ c : Dev Cert.FwdRefIdeal.nD,
          r.2.mem ((c.tc : Thread Cert.FwdRefIdeal.nD Cert.FwdRefIdeal.τ).loc Cert.FwdRefIdeal.main_v0_0) = v0 c
          ∧ r.2.mem ((c.tc : Thread Cert.FwdRefIdeal.nD Cert.FwdRefIdeal.τ).loc Cert.FwdRefIdeal.main_v0_1) = v1 c
          ∧ r.2.mem ((c.tc : Thread Cert.FwdRefIdeal.nD Cert.FwdRefIdeal.τ).loc Cert.FwdRefIdeal.main_v0_2) = v2 c
          ∧ r.2.mem ((c.tc : Thread Cert.FwdRefIdeal.nD Cert.FwdRefIdeal.τ).loc Cert.FwdRefIdeal.main_arg0) = m' ((c.tc : Thread Cert.FwdRefIdeal.nD Cert.FwdRefIdeal.τ).loc Cert.FwdRefIdeal.main_arg0)
          ∧ r.2.mem ((c.tc : Thread Cert.FwdRefIdeal.nD Cert.FwdRefIdeal.τ).loc Cert.FwdRefIdeal.main_arg1) = m' ((c.tc : Thread Cert.FwdRefIdeal.nD Cert.FwdRefIdeal.τ).loc Cert.FwdRefIdeal.main_arg1)
          ∧ r.2.mem ((c.tc : Thread Cert.FwdRefIdeal.nD Cert.FwdRefIdeal.τ).loc Cert.FwdRefIdeal.main_arg2) = m' ((c.tc : Thread Cert.FwdRefIdeal.nD Cert.FwdRefIdeal.τ).loc Cert.FwdRefIdeal.main_arg2))

def preserves_Dx_DxIdeal : Prop :=
  True

def algebraic_DxIdeal_DxRefIdeal_pre_dy_range [hDxIdeal : Cert.DxIdeal.Facts] [hDxRefIdeal : Cert.DxRefIdeal.Facts] [hPre_dy_range : Cert.Pre_dy_range.Facts] : Prop :=
  ∀ (m : (ℓ : Loc Cert.DxIdeal.nD Cert.DxIdeal.τ Cert.DxIdeal.sig) → Buf (Elt Ideal) ℓ) (g : Dev Cert.DxIdeal.nD → PrngReg)
    (m' : (ℓ : Loc Cert.DxRefIdeal.nD Cert.DxRefIdeal.τ Cert.DxRefIdeal.sig) → Buf (Elt Ideal) ℓ) (g' : Dev Cert.DxRefIdeal.nD → PrngReg), Pre_DxIdeal_dy_range m →
    (∀ c : Dev Cert.DxIdeal.nD,
      m' ((c.tc : Thread Cert.DxRefIdeal.nD Cert.DxRefIdeal.τ).loc Cert.DxRefIdeal.main_arg0) = m ((c.tc : Thread Cert.DxIdeal.nD Cert.DxIdeal.τ).loc Cert.DxIdeal.main_arg0)
      ∧ m' ((c.tc : Thread Cert.DxRefIdeal.nD Cert.DxRefIdeal.τ).loc Cert.DxRefIdeal.main_arg1) = m ((c.tc : Thread Cert.DxIdeal.nD Cert.DxIdeal.τ).loc Cert.DxIdeal.main_arg1)
      ∧ m' ((c.tc : Thread Cert.DxRefIdeal.nD Cert.DxRefIdeal.τ).loc Cert.DxRefIdeal.main_arg2) = m ((c.tc : Thread Cert.DxIdeal.nD Cert.DxIdeal.τ).loc Cert.DxIdeal.main_arg2)) →
    ∃ (v0 : (c : Dev Cert.DxIdeal.nD) → Buf (Elt Ideal) ((c.tc : Thread Cert.DxIdeal.nD Cert.DxIdeal.τ).loc Cert.DxIdeal.main_v0_0)) (v1 : (c : Dev Cert.DxIdeal.nD) → Buf (Elt Ideal) ((c.tc : Thread Cert.DxIdeal.nD Cert.DxIdeal.τ).loc Cert.DxIdeal.main_v0_1)) (v2 : (c : Dev Cert.DxIdeal.nD) → Buf (Elt Ideal) ((c.tc : Thread Cert.DxIdeal.nD Cert.DxIdeal.τ).loc Cert.DxIdeal.main_v0_2)),
      θ_run (Cert.DxIdeal.defs (F := Ideal)) (onTc (τ := Cert.DxIdeal.τ) (Cert.DxIdeal.main (F := Ideal))) ⟨m, fun _ => 0, g⟩ (fun r => ∀ c : Dev Cert.DxIdeal.nD,
          r.2.mem ((c.tc : Thread Cert.DxIdeal.nD Cert.DxIdeal.τ).loc Cert.DxIdeal.main_v0_0) = v0 c
          ∧ r.2.mem ((c.tc : Thread Cert.DxIdeal.nD Cert.DxIdeal.τ).loc Cert.DxIdeal.main_v0_1) = v1 c
          ∧ r.2.mem ((c.tc : Thread Cert.DxIdeal.nD Cert.DxIdeal.τ).loc Cert.DxIdeal.main_v0_2) = v2 c
          ∧ r.2.mem ((c.tc : Thread Cert.DxIdeal.nD Cert.DxIdeal.τ).loc Cert.DxIdeal.main_arg0) = m ((c.tc : Thread Cert.DxIdeal.nD Cert.DxIdeal.τ).loc Cert.DxIdeal.main_arg0)
          ∧ r.2.mem ((c.tc : Thread Cert.DxIdeal.nD Cert.DxIdeal.τ).loc Cert.DxIdeal.main_arg1) = m ((c.tc : Thread Cert.DxIdeal.nD Cert.DxIdeal.τ).loc Cert.DxIdeal.main_arg1)
          ∧ r.2.mem ((c.tc : Thread Cert.DxIdeal.nD Cert.DxIdeal.τ).loc Cert.DxIdeal.main_arg2) = m ((c.tc : Thread Cert.DxIdeal.nD Cert.DxIdeal.τ).loc Cert.DxIdeal.main_arg2))
      ∧ θ_run (Cert.DxRefIdeal.defs (F := Ideal)) (onTc (τ := Cert.DxRefIdeal.τ) (Cert.DxRefIdeal.main (F := Ideal))) ⟨m', fun _ => 0, g'⟩ (fun r => ∀ c : Dev Cert.DxRefIdeal.nD,
          r.2.mem ((c.tc : Thread Cert.DxRefIdeal.nD Cert.DxRefIdeal.τ).loc Cert.DxRefIdeal.main_v0_0) = v0 c
          ∧ r.2.mem ((c.tc : Thread Cert.DxRefIdeal.nD Cert.DxRefIdeal.τ).loc Cert.DxRefIdeal.main_v0_1) = v1 c
          ∧ r.2.mem ((c.tc : Thread Cert.DxRefIdeal.nD Cert.DxRefIdeal.τ).loc Cert.DxRefIdeal.main_v0_2) = v2 c
          ∧ r.2.mem ((c.tc : Thread Cert.DxRefIdeal.nD Cert.DxRefIdeal.τ).loc Cert.DxRefIdeal.main_arg0) = m' ((c.tc : Thread Cert.DxRefIdeal.nD Cert.DxRefIdeal.τ).loc Cert.DxRefIdeal.main_arg0)
          ∧ r.2.mem ((c.tc : Thread Cert.DxRefIdeal.nD Cert.DxRefIdeal.τ).loc Cert.DxRefIdeal.main_arg1) = m' ((c.tc : Thread Cert.DxRefIdeal.nD Cert.DxRefIdeal.τ).loc Cert.DxRefIdeal.main_arg1)
          ∧ r.2.mem ((c.tc : Thread Cert.DxRefIdeal.nD Cert.DxRefIdeal.τ).loc Cert.DxRefIdeal.main_arg2) = m' ((c.tc : Thread Cert.DxRefIdeal.nD Cert.DxRefIdeal.τ).loc Cert.DxRefIdeal.main_arg2))

def Claim : Prop :=
  ∃ (hWquant : Cert.Wquant.Facts) (hWquantIdeal : Cert.WquantIdeal.Facts) (hWquantRefIdeal : Cert.WquantRefIdeal.Facts) (hFwd : Cert.Fwd.Facts) (hFwdIdeal : Cert.FwdIdeal.Facts) (hFwdRefIdeal : Cert.FwdRefIdeal.Facts) (hDx : Cert.Dx.Facts) (hDxIdeal : Cert.DxIdeal.Facts) (hDxRefIdeal : Cert.DxRefIdeal.Facts) (hPre_w_range : Cert.Pre_w_range.Facts) (hPre_x_range : Cert.Pre_x_range.Facts) (hPre_dy_range : Cert.Pre_dy_range.Facts),
    quiescent_Wquant (hWquant := hWquant)
    ∧ quiescent_WquantIdeal (hWquantIdeal := hWquantIdeal)
    ∧ quiescent_WquantIdeal_pre_w_range (hWquantIdeal := hWquantIdeal) (hPre_w_range := hPre_w_range)
    ∧ quiescent_WquantRefIdeal (hWquantRefIdeal := hWquantRefIdeal)
    ∧ quiescent_WquantRefIdeal_pre_w_range (hWquantRefIdeal := hWquantRefIdeal) (hPre_w_range := hPre_w_range)
    ∧ quiescent_Fwd (hFwd := hFwd)
    ∧ quiescent_FwdIdeal (hFwdIdeal := hFwdIdeal)
    ∧ quiescent_FwdIdeal_pre_x_range (hFwdIdeal := hFwdIdeal) (hPre_x_range := hPre_x_range)
    ∧ quiescent_FwdRefIdeal (hFwdRefIdeal := hFwdRefIdeal)
    ∧ quiescent_FwdRefIdeal_pre_x_range (hFwdRefIdeal := hFwdRefIdeal) (hPre_x_range := hPre_x_range)
    ∧ quiescent_Dx (hDx := hDx)
    ∧ quiescent_DxIdeal (hDxIdeal := hDxIdeal)
    ∧ quiescent_DxIdeal_pre_dy_range (hDxIdeal := hDxIdeal) (hPre_dy_range := hPre_dy_range)
    ∧ quiescent_DxRefIdeal (hDxRefIdeal := hDxRefIdeal)
    ∧ quiescent_DxRefIdeal_pre_dy_range (hDxRefIdeal := hDxRefIdeal) (hPre_dy_range := hPre_dy_range)
    ∧ preserves_Wquant_WquantIdeal
    ∧ algebraic_WquantIdeal_WquantRefIdeal_pre_w_range (hWquantIdeal := hWquantIdeal) (hWquantRefIdeal := hWquantRefIdeal) (hPre_w_range := hPre_w_range)
    ∧ preserves_Fwd_FwdIdeal
    ∧ algebraic_FwdIdeal_FwdRefIdeal_pre_x_range (hFwdIdeal := hFwdIdeal) (hFwdRefIdeal := hFwdRefIdeal) (hPre_x_range := hPre_x_range)
    ∧ preserves_Dx_DxIdeal
    ∧ algebraic_DxIdeal_DxRefIdeal_pre_dy_range (hDxIdeal := hDxIdeal) (hDxRefIdeal := hDxRefIdeal) (hPre_dy_range := hPre_dy_range)
-- ==== Pre_dy_range.lean ====
abbrev S32x6 : Shape := ⟨2, ![32, 6]⟩
abbrev S32768x768 : Shape := ⟨2, ![32768, 768]⟩
abbrev S4096x768 : Shape := ⟨2, ![4096, 768]⟩
abbrev S32768x6x128 : Shape := ⟨3, ![32768, 6, 128]⟩
abbrev S_ : Shape := ⟨0, ![]⟩
abbrev S32768x6 : Shape := ⟨2, ![32768, 6]⟩

class Facts : Prop where
  shapeCasts_S32768x768_S32768x6x128 : S32768x768.ShapeCasts S32768x6x128
  bitsLt_bf16_f32 : FTy.bits .bf16 < FTy.bits .f32
  reducesTo_S32768x6x128_S32768x6_d2 : S32768x6x128.ReducesTo [2] S32768x6
  h_S_ : 0 < S_.numel
  bcast_S_S32768x6 : S_.BroadcastsInDim S32768x6 (![] : Fin 0 → Fin S32768x6.rank)

variable [Facts]

def fn {F : FTy → Type} [FloatOps F] (main_arg0 : FVec F S32x6 .f32) (main_arg1 : FVec F S32768x768 .bf16) (main_arg2 : FVec F S4096x768 .fp8e4m3) : IVec S32768x6 1 :=
  let main_v0 : FVec F S32768x6x128 .bf16 := shapeCast S32768x6x128 main_arg1 shapeCasts_S32768x768_S32768x6x128
  let main_v1 : FVec F S32768x6x128 .f32 := (extf .f32 · bitsLt_bf16_f32) main_v0
  let main_v2 : FVec F S32768x6x128 .f32 := Host.absf main_v1
  let main_cst : FVec F S_ .f32 := constant S_ .f32 0xFF800000#32
  let main_v3 : FVec F S32768x6 .f32 := (fun x v => Host.reduce FloatOps.maximumf x v reducesTo_S32768x6x128_S32768x6_d2 h_S_) main_v2 main_cst
  let main_cst_0 : FVec F S_ .f32 := constant S_ .f32 0x00000000#32
  let main_v4 : FVec F S32768x6 .f32 := broadcastInDim S32768x6 ![] bcast_S_S32768x6 main_cst_0
  let main_v5 : IVec S32768x6 1 := cmpf .oeq main_v3 main_v4
  let main_cst_1 : FVec F S_ .f32 := constant S_ .f32 0x3B124925#32
  let main_v6 : FVec F S32768x6 .f32 := broadcastInDim S32768x6 ![] bcast_S_S32768x6 main_cst_1
  let main_v7 : FVec F S32768x6 .f32 := mulf main_v3 main_v6
  let main_cst_2 : FVec F S_ .f32 := constant S_ .f32 0x00800000#32
  let main_v8 : FVec F S32768x6 .f32 := broadcastInDim S32768x6 ![] bcast_S_S32768x6 main_cst_2
  let main_v9 : IVec S32768x6 1 := cmpf .oge main_v7 main_v8
  let main_cst_3 : FVec F S_ .f32 := constant S_ .f32 0x7F7FC99E#32
  let main_v10 : FVec F S32768x6 .f32 := broadcastInDim S32768x6 ![] bcast_S_S32768x6 main_cst_3
  let main_v11 : IVec S32768x6 1 := cmpf .ole main_v3 main_v10
  let main_v12 : IVec S32768x6 1 := andi main_v9 main_v11
  let main_v13 : IVec S32768x6 1 := ori main_v5 main_v12
  main_v13
-- ==== Pre_w_range.lean ====
abbrev S4096x768 : Shape := ⟨2, ![4096, 768]⟩
abbrev S32x128x6x128 : Shape := ⟨4, ![32, 128, 6, 128]⟩
abbrev S_ : Shape := ⟨0, ![]⟩
abbrev S32x6 : Shape := ⟨2, ![32, 6]⟩

class Facts : Prop where
  shapeCasts_S4096x768_S32x128x6x128 : S4096x768.ShapeCasts S32x128x6x128
  reducesTo_S32x128x6x128_S32x6_d1_3 : S32x128x6x128.ReducesTo [1, 3] S32x6
  h_S_ : 0 < S_.numel
  bcast_S_S32x6 : S_.BroadcastsInDim S32x6 (![] : Fin 0 → Fin S32x6.rank)

variable [Facts]

def fn {F : FTy → Type} [FloatOps F] (main_arg0 : FVec F S4096x768 .f32) : IVec S32x6 1 :=
  let main_v0 : FVec F S32x128x6x128 .f32 := shapeCast S32x128x6x128 main_arg0 shapeCasts_S4096x768_S32x128x6x128
  let main_v1 : FVec F S32x128x6x128 .f32 := Host.absf main_v0
  let main_cst : FVec F S_ .f32 := constant S_ .f32 0xFF800000#32
  let main_v2 : FVec F S32x6 .f32 := (fun x v => Host.reduce FloatOps.maximumf x v reducesTo_S32x128x6x128_S32x6_d1_3 h_S_) main_v1 main_cst
  let main_cst_0 : FVec F S_ .f32 := constant S_ .f32 0x00000000#32
  let main_v3 : FVec F S32x6 .f32 := broadcastInDim S32x6 ![] bcast_S_S32x6 main_cst_0
  let main_v4 : IVec S32x6 1 := cmpf .oeq main_v2 main_v3
  let main_cst_1 : FVec F S_ .f32 := constant S_ .f32 0x3B124925#32
  let main_v5 : FVec F S32x6 .f32 := broadcastInDim S32x6 ![] bcast_S_S32x6 main_cst_1
  let main_v6 : FVec F S32x6 .f32 := mulf main_v2 main_v5
  let main_cst_2 : FVec F S_ .f32 := constant S_ .f32 0x00800000#32
  let main_v7 : FVec F S32x6 .f32 := broadcastInDim S32x6 ![] bcast_S_S32x6 main_cst_2
  let main_v8 : IVec S32x6 1 := cmpf .oge main_v6 main_v7
  let main_cst_3 : FVec F S_ .f32 := constant S_ .f32 0x7F7FC99E#32
  let main_v9 : FVec F S32x6 .f32 := broadcastInDim S32x6 ![] bcast_S_S32x6 main_cst_3
  let main_v10 : IVec S32x6 1 := cmpf .ole main_v2 main_v9
  let main_v11 : IVec S32x6 1 := andi main_v8 main_v10
  let main_v12 : IVec S32x6 1 := ori main_v4 main_v11
  main_v12
-- ==== Pre_x_range.lean ====
abbrev S32x6 : Shape := ⟨2, ![32, 6]⟩
abbrev S32768x4096 : Shape := ⟨2, ![32768, 4096]⟩
abbrev S768x4096 : Shape := ⟨2, ![768, 4096]⟩
abbrev S32768x32x128 : Shape := ⟨3, ![32768, 32, 128]⟩
abbrev S_ : Shape := ⟨0, ![]⟩
abbrev S32768x32 : Shape := ⟨2, ![32768, 32]⟩

class Facts : Prop where
  shapeCasts_S32768x4096_S32768x32x128 : S32768x4096.ShapeCasts S32768x32x128
  bitsLt_bf16_f32 : FTy.bits .bf16 < FTy.bits .f32
  reducesTo_S32768x32x128_S32768x32_d2 : S32768x32x128.ReducesTo [2] S32768x32
  h_S_ : 0 < S_.numel
  bcast_S_S32768x32 : S_.BroadcastsInDim S32768x32 (![] : Fin 0 → Fin S32768x32.rank)

variable [Facts]

def fn {F : FTy → Type} [FloatOps F] (main_arg0 : FVec F S32x6 .f32) (main_arg1 : FVec F S32768x4096 .bf16) (main_arg2 : FVec F S768x4096 .fp8e4m3) : IVec S32768x32 1 :=
  let main_v0 : FVec F S32768x32x128 .bf16 := shapeCast S32768x32x128 main_arg1 shapeCasts_S32768x4096_S32768x32x128
  let main_v1 : FVec F S32768x32x128 .f32 := (extf .f32 · bitsLt_bf16_f32) main_v0
  let main_v2 : FVec F S32768x32x128 .f32 := Host.absf main_v1
  let main_cst : FVec F S_ .f32 := constant S_ .f32 0xFF800000#32
  let main_v3 : FVec F S32768x32 .f32 := (fun x v => Host.reduce FloatOps.maximumf x v reducesTo_S32768x32x128_S32768x32_d2 h_S_) main_v2 main_cst
  let main_cst_0 : FVec F S_ .f32 := constant S_ .f32 0x00000000#32
  let main_v4 : FVec F S32768x32 .f32 := broadcastInDim S32768x32 ![] bcast_S_S32768x32 main_cst_0
  let main_v5 : IVec S32768x32 1 := cmpf .oeq main_v3 main_v4
  let main_cst_1 : FVec F S_ .f32 := constant S_ .f32 0x3B124925#32
  let main_v6 : FVec F S32768x32 .f32 := broadcastInDim S32768x32 ![] bcast_S_S32768x32 main_cst_1
  let main_v7 : FVec F S32768x32 .f32 := mulf main_v3 main_v6
  let main_cst_2 : FVec F S_ .f32 := constant S_ .f32 0x00800000#32
  let main_v8 : FVec F S32768x32 .f32 := broadcastInDim S32768x32 ![] bcast_S_S32768x32 main_cst_2
  let main_v9 : IVec S32768x32 1 := cmpf .oge main_v7 main_v8
  let main_cst_3 : FVec F S_ .f32 := constant S_ .f32 0x7F7FC99E#32
  let main_v10 : FVec F S32768x32 .f32 := broadcastInDim S32768x32 ![] bcast_S_S32768x32 main_cst_3
  let main_v11 : IVec S32768x32 1 := cmpf .ole main_v3 main_v10
  let main_v12 : IVec S32768x32 1 := andi main_v9 main_v11
  let main_v13 : IVec S32768x32 1 := ori main_v5 main_v12
  main_v13
-- ==== Wquant.lean ====
abbrev S4096x768 : Shape := ⟨2, ![4096, 768]⟩
abbrev S768x4096 : Shape := ⟨2, ![768, 4096]⟩
abbrev S32x6 : Shape := ⟨2, ![32, 6]⟩
abbrev S128x768 : Shape := ⟨2, ![128, 768]⟩
abbrev S768x128 : Shape := ⟨2, ![768, 128]⟩
abbrev S1x6 : Shape := ⟨2, ![1, 6]⟩
abbrev S128x128 : Shape := ⟨2, ![128, 128]⟩
abbrev S128 : Shape := ⟨1, ![128]⟩
abbrev S1x128 : Shape := ⟨2, ![1, 128]⟩
abbrev S1 : Shape := ⟨1, ![1]⟩
abbrev S1x1 : Shape := ⟨2, ![1, 1]⟩

abbrev nBuf : Space → Nat
  | .hbm => 4
  | .vmem => 7
  | .smem => 0
  | _ => 0

abbrev bufTy : (tb : Table) → Fin (tcTables nBuf tb) → BufTy
  | .hbm, ⟨0, _⟩ => ⟨S4096x768, .f32⟩
  | .hbm, ⟨1, _⟩ => ⟨S4096x768, .fp8e4m3⟩
  | .hbm, ⟨2, _⟩ => ⟨S768x4096, .fp8e4m3⟩
  | .hbm, ⟨3, _⟩ => ⟨S32x6, .f32⟩
  | .local _ .vmem, ⟨0, _⟩ => ⟨S128x768, .f32⟩
  | .local _ .vmem, ⟨1, _⟩ => ⟨S128x768, .f32⟩
  | .local _ .vmem, ⟨2, _⟩ => ⟨S128x768, .fp8e4m3⟩
  | .local _ .vmem, ⟨3, _⟩ => ⟨S128x768, .fp8e4m3⟩
  | .local _ .vmem, ⟨4, _⟩ => ⟨S768x128, .fp8e4m3⟩
  | .local _ .vmem, ⟨5, _⟩ => ⟨S768x128, .fp8e4m3⟩
  | .local _ .vmem, ⟨6, _⟩ => ⟨S32x6, .f32⟩
  | _, _ => ⟨S4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v0_2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![32], ![false]⟩

def k0_off1 (i : grid0.Coords) : Fin 2 → Nat :=
  let arg0 : BitVec 32 := BitVec.ofNat 32 (i 0).val
  let v698 : Index := Scalar.indexCast arg0
  let c0_249 : Index := 0#32
  ![v698.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x768 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S768x128 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S32x6 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== WquantRefIdeal.lean ====
abbrev S4096x768 : Shape := ⟨2, ![4096, 768]⟩
abbrev S768x4096 : Shape := ⟨2, ![768, 4096]⟩
abbrev S32x6 : Shape := ⟨2, ![32, 6]⟩
abbrev S32x128x6x128 : Shape := ⟨4, ![32, 128, 6, 128]⟩
abbrev S32x1x6x1 : Shape := ⟨4, ![32, 1, 6, 1]⟩

abbrev nBuf : Space → Nat
  | .hbm => 4
  | .vmem => 4
  | .smem => 0
  | _ => 0

abbrev bufTy : (tb : Table) → Fin (tcTables nBuf tb) → BufTy
  | .hbm, ⟨0, _⟩ => ⟨S4096x768, .f32⟩
  | .hbm, ⟨1, _⟩ => ⟨S4096x768, .fp8e4m3⟩
  | .hbm, ⟨2, _⟩ => ⟨S768x4096, .fp8e4m3⟩
  | .hbm, ⟨3, _⟩ => ⟨S32x6, .f32⟩
  | .local _ .vmem, ⟨0, _⟩ => ⟨S4096x768, .f32⟩
  | .local _ .vmem, ⟨1, _⟩ => ⟨S4096x768, .fp8e4m3⟩
  | .local _ .vmem, ⟨2, _⟩ => ⟨S768x4096, .fp8e4m3⟩
  | .local _ .vmem, ⟨3, _⟩ => ⟨S32x6, .f32⟩
  | _, _ => ⟨S4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v0_2 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S4096x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x768 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S768x4096 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S32x6 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Fwd.lean ====
abbrev S32x6 : Shape := ⟨2, ![32, 6]⟩
abbrev S32768x4096 : Shape := ⟨2, ![32768, 4096]⟩
abbrev S768x4096 : Shape := ⟨2, ![768, 4096]⟩
abbrev S32768x768 : Shape := ⟨2, ![32768, 768]⟩
abbrev S32768x32 : Shape := ⟨2, ![32768, 32]⟩
abbrev S256x4096 : Shape := ⟨2, ![256, 4096]⟩
abbrev S256x768 : Shape := ⟨2, ![256, 768]⟩
abbrev S256x32 : Shape := ⟨2, ![256, 32]⟩
abbrev S4096x256 : Shape := ⟨2, ![4096, 256]⟩
abbrev S256x128 : Shape := ⟨2, ![256, 128]⟩
abbrev S256 : Shape := ⟨1, ![256]⟩
abbrev S256x1 : Shape := ⟨2, ![256, 1]⟩
abbrev S128x256 : Shape := ⟨2, ![128, 256]⟩
abbrev S32x256 : Shape := ⟨2, ![32, 256]⟩
abbrev S128x128 : Shape := ⟨2, ![128, 128]⟩
abbrev S1x256 : Shape := ⟨2, ![1, 256]⟩
abbrev S1x1 : Shape := ⟨2, ![1, 1]⟩

abbrev nBuf : Space → Nat
  | .hbm => 6
  | .vmem => 10
  | .smem => 1
  | _ => 0

abbrev bufTy : (tb : Table) → Fin (tcTables nBuf tb) → BufTy
  | .hbm, ⟨0, _⟩ => ⟨S32x6, .f32⟩
  | .hbm, ⟨1, _⟩ => ⟨S32768x4096, .bf16⟩
  | .hbm, ⟨2, _⟩ => ⟨S768x4096, .fp8e4m3⟩
  | .hbm, ⟨3, _⟩ => ⟨S32768x768, .bf16⟩
  | .hbm, ⟨4, _⟩ => ⟨S32768x4096, .fp8e4m3⟩
  | .hbm, ⟨5, _⟩ => ⟨S32768x32, .f32⟩
  | .local _ .vmem, ⟨0, _⟩ => ⟨S256x4096, .bf16⟩
  | .local _ .vmem, ⟨1, _⟩ => ⟨S256x4096, .bf16⟩
  | .local _ .vmem, ⟨2, _⟩ => ⟨S768x4096, .fp8e4m3⟩
  | .local _ .vmem, ⟨3, _⟩ => ⟨S256x768, .bf16⟩
  | .local _ .vmem, ⟨4, _⟩ => ⟨S256x768, .bf16⟩
  | .local _ .vmem, ⟨5, _⟩ => ⟨S256x4096, .fp8e4m3⟩
  | .local _ .vmem, ⟨6, _⟩ => ⟨S256x4096, .fp8e4m3⟩
  | .local _ .vmem, ⟨7, _⟩ => ⟨S256x32, .f32⟩
  | .local _ .vmem, ⟨8, _⟩ => ⟨S256x32, .f32⟩
  | .local _ .vmem, ⟨9, _⟩ => ⟨S4096x256, .fp8e4m3⟩
  | .local _ .smem, ⟨0, _⟩ => ⟨S32x6, .f32⟩
  | _, _ => ⟨S32x6, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S32x6 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S768x4096 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x4096 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x32 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== FwdRefIdeal.lean ====
abbrev S32x6 : Shape := ⟨2, ![32, 6]⟩
abbrev S32768x4096 : Shape := ⟨2, ![32768, 4096]⟩
abbrev S768x4096 : Shape := ⟨2, ![768, 4096]⟩
abbrev S32768x768 : Shape := ⟨2, ![32768, 768]⟩
abbrev S32768x32 : Shape := ⟨2, ![32768, 32]⟩
abbrev S32768x32x128 : Shape := ⟨3, ![32768, 32, 128]⟩
abbrev S32768x32x1 : Shape := ⟨3, ![32768, 32, 1]⟩
abbrev S32x32768x128 : Shape := ⟨3, ![32, 32768, 128]⟩
abbrev S4096x768 : Shape := ⟨2, ![4096, 768]⟩
abbrev S32x128x768 : Shape := ⟨3, ![32, 128, 768]⟩
abbrev S32x32768x768 : Shape := ⟨3, ![32, 32768, 768]⟩
abbrev S32x6x1 : Shape := ⟨3, ![32, 6, 1]⟩
abbrev S32x6x128 : Shape := ⟨3, ![32, 6, 128]⟩
abbrev S32x768 : Shape := ⟨2, ![32, 768]⟩
abbrev S32x32768 : Shape := ⟨2, ![32, 32768]⟩
abbrev S32x32768x1 : Shape := ⟨3, ![32, 32768, 1]⟩
abbrev S32x1x768 : Shape := ⟨3, ![32, 1, 768]⟩

abbrev nBuf : Space → Nat
  | .hbm => 6
  | .vmem => 6
  | .smem => 0
  | _ => 0

abbrev bufTy : (tb : Table) → Fin (tcTables nBuf tb) → BufTy
  | .hbm, ⟨0, _⟩ => ⟨S32x6, .f32⟩
  | .hbm, ⟨1, _⟩ => ⟨S32768x4096, .bf16⟩
  | .hbm, ⟨2, _⟩ => ⟨S768x4096, .fp8e4m3⟩
  | .hbm, ⟨3, _⟩ => ⟨S32768x768, .bf16⟩
  | .hbm, ⟨4, _⟩ => ⟨S32768x4096, .fp8e4m3⟩
  | .hbm, ⟨5, _⟩ => ⟨S32768x32, .f32⟩
  | .local _ .vmem, ⟨0, _⟩ => ⟨S32x6, .f32⟩
  | .local _ .vmem, ⟨1, _⟩ => ⟨S32768x4096, .bf16⟩
  | .local _ .vmem, ⟨2, _⟩ => ⟨S768x4096, .fp8e4m3⟩
  | .local _ .vmem, ⟨3, _⟩ => ⟨S32768x768, .bf16⟩
  | .local _ .vmem, ⟨4, _⟩ => ⟨S32768x4096, .fp8e4m3⟩
  | .local _ .vmem, ⟨5, _⟩ => ⟨S32768x32, .f32⟩
  | _, _ => ⟨S32x6, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S32x6 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32768x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S768x4096 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S32768x768 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S32768x4096 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S32768x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Dx.lean ====
abbrev S32x6 : Shape := ⟨2, ![32, 6]⟩
abbrev S32768x768 : Shape := ⟨2, ![32768, 768]⟩
abbrev S4096x768 : Shape := ⟨2, ![4096, 768]⟩
abbrev S32768x4096 : Shape := ⟨2, ![32768, 4096]⟩
abbrev S32768x6 : Shape := ⟨2, ![32768, 6]⟩
abbrev S256x768 : Shape := ⟨2, ![256, 768]⟩
abbrev S256x4096 : Shape := ⟨2, ![256, 4096]⟩
abbrev S256x6 : Shape := ⟨2, ![256, 6]⟩
abbrev S768x256 : Shape := ⟨2, ![768, 256]⟩
abbrev S256x128 : Shape := ⟨2, ![256, 128]⟩
abbrev S256 : Shape := ⟨1, ![256]⟩
abbrev S256x1 : Shape := ⟨2, ![256, 1]⟩
abbrev S128x256 : Shape := ⟨2, ![128, 256]⟩
abbrev S6x256 : Shape := ⟨2, ![6, 256]⟩
abbrev S128x128 : Shape := ⟨2, ![128, 128]⟩
abbrev S1x256 : Shape := ⟨2, ![1, 256]⟩
abbrev S1x1 : Shape := ⟨2, ![1, 1]⟩

abbrev nBuf : Space → Nat
  | .hbm => 6
  | .vmem => 10
  | .smem => 1
  | _ => 0

abbrev bufTy : (tb : Table) → Fin (tcTables nBuf tb) → BufTy
  | .hbm, ⟨0, _⟩ => ⟨S32x6, .f32⟩
  | .hbm, ⟨1, _⟩ => ⟨S32768x768, .bf16⟩
  | .hbm, ⟨2, _⟩ => ⟨S4096x768, .fp8e4m3⟩
  | .hbm, ⟨3, _⟩ => ⟨S32768x4096, .bf16⟩
  | .hbm, ⟨4, _⟩ => ⟨S32768x768, .fp8e4m3⟩
  | .hbm, ⟨5, _⟩ => ⟨S32768x6, .f32⟩
  | .local _ .vmem, ⟨0, _⟩ => ⟨S256x768, .bf16⟩
  | .local _ .vmem, ⟨1, _⟩ => ⟨S256x768, .bf16⟩
  | .local _ .vmem, ⟨2, _⟩ => ⟨S4096x768, .fp8e4m3⟩
  | .local _ .vmem, ⟨3, _⟩ => ⟨S256x4096, .bf16⟩
  | .local _ .vmem, ⟨4, _⟩ => ⟨S256x4096, .bf16⟩
  | .local _ .vmem, ⟨5, _⟩ => ⟨S256x768, .fp8e4m3⟩
  | .local _ .vmem, ⟨6, _⟩ => ⟨S256x768, .fp8e4m3⟩
  | .local _ .vmem, ⟨7, _⟩ => ⟨S256x6, .f32⟩
  | .local _ .vmem, ⟨8, _⟩ => ⟨S256x6, .f32⟩
  | .local _ .vmem, ⟨9, _⟩ => ⟨S768x256, .fp8e4m3⟩
  | .local _ .smem, ⟨0, _⟩ => ⟨S32x6, .f32⟩
  | _, _ => ⟨S32x6, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S32x6 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4096x768 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x768 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x6 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== DxRefIdeal.lean ====
abbrev S32x6 : Shape := ⟨2, ![32, 6]⟩
abbrev S32768x768 : Shape := ⟨2, ![32768, 768]⟩
abbrev S4096x768 : Shape := ⟨2, ![4096, 768]⟩
abbrev S32768x4096 : Shape := ⟨2, ![32768, 4096]⟩
abbrev S32768x6 : Shape := ⟨2, ![32768, 6]⟩
abbrev S32768x6x128 : Shape := ⟨3, ![32768, 6, 128]⟩
abbrev S32768x6x1 : Shape := ⟨3, ![32768, 6, 1]⟩
abbrev S6x32768x128 : Shape := ⟨3, ![6, 32768, 128]⟩
abbrev S4096x6x128 : Shape := ⟨3, ![4096, 6, 128]⟩
abbrev S6x4096x128 : Shape := ⟨3, ![6, 4096, 128]⟩
abbrev S6x32768x4096 : Shape := ⟨3, ![6, 32768, 4096]⟩
abbrev S32x1x6 : Shape := ⟨3, ![32, 1, 6]⟩
abbrev S32x128x6 : Shape := ⟨3, ![32, 128, 6]⟩
abbrev S4096x6 : Shape := ⟨2, ![4096, 6]⟩
abbrev S6x4096 : Shape := ⟨2, ![6, 4096]⟩
abbrev S6x32768 : Shape := ⟨2, ![6, 32768]⟩
abbrev S6x32768x1 : Shape := ⟨3, ![6, 32768, 1]⟩
abbrev S6x1x4096 : Shape := ⟨3, ![6, 1, 4096]⟩

abbrev nBuf : Space → Nat
  | .hbm => 6
  | .vmem => 6
  | .smem => 0
  | _ => 0

abbrev bufTy : (tb : Table) → Fin (tcTables nBuf tb) → BufTy
  | .hbm, ⟨0, _⟩ => ⟨S32x6, .f32⟩
  | .hbm, ⟨1, _⟩ => ⟨S32768x768, .bf16⟩
  | .hbm, ⟨2, _⟩ => ⟨S4096x768, .fp8e4m3⟩
  | .hbm, ⟨3, _⟩ => ⟨S32768x4096, .bf16⟩
  | .hbm, ⟨4, _⟩ => ⟨S32768x768, .fp8e4m3⟩
  | .hbm, ⟨5, _⟩ => ⟨S32768x6, .f32⟩
  | .local _ .vmem, ⟨0, _⟩ => ⟨S32x6, .f32⟩
  | .local _ .vmem, ⟨1, _⟩ => ⟨S32768x768, .bf16⟩
  | .local _ .vmem, ⟨2, _⟩ => ⟨S4096x768, .fp8e4m3⟩
  | .local _ .vmem, ⟨3, _⟩ => ⟨S32768x4096, .bf16⟩
  | .local _ .vmem, ⟨4, _⟩ => ⟨S32768x768, .fp8e4m3⟩
  | .local _ .vmem, ⟨5, _⟩ => ⟨S32768x6, .f32⟩
  | _, _ => ⟨S32x6, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S32x6 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32768x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x768 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S32768x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S32768x768 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S32768x6 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.WquantRun.lean ====
/- The weight-quantising kernel's body, run once: what it leaves in its two block outputs as pieces, and in the scale array, of
   which it stores one row and keeps the rest. -/
module
public import proofs.«01_k».proof.Proof.Gen.WquantIdeal.Skeleton
public import proofs.«01_k».proof.Proof.Gen.WquantIdeal.Launch
public import proofs.«01_k».proof.Proof.Gen.WquantIdeal.Points
public import proofs.«01_k».proof.Proof.Gen.WquantIdeal.Frame
public import Idealize.ShloMosaic.Lib.Pipeline.FrameBody
public import Idealize.ShloMosaic.Lib.Exec
@[expose] public section
set_option maxRecDepth 16384

noncomputable section

namespace Cert.WquantIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 3236000 in
/-- The body's triple: the input block `x0` is kept, the two block outputs end with the pieces stored, and the scale array,
    found at `Y`, ends at `Y` with the one piece stored over it. -/
noncomputable def kernelRun0 (c : Dev nD) (i : grid0.Coords) (arg1 : Memref sig .tc .vmem S128x768 .f32) (harg1 : arg1.IsWhole) (arg2 : Memref sig .tc .vmem S128x768 .fp8e4m3) (harg2 : arg2.IsWhole) (arg3 : Memref sig .tc .vmem S768x128 .fp8e4m3) (harg3 : arg3.IsWhole) (arg4 : Memref sig .tc .vmem S32x6 .f32) (harg4 : arg4.IsWhole)
    (x0 : Vec F S128x768 .f32) :
    Σ' (L1 : List (View.Piece (Elt F) S128x768 .fp8e4m3)), Σ' (L2 : List (View.Piece (Elt F) S768x128 .fp8e4m3)), { L3 : List (View.Piece (Elt F) S32x6 .f32) //
      ∀ (E : Set ℕ) (K : PUnit → sProp 𝕄) (Y : Vec F S32x6 .f32),
        iprop(owns (c : Thread nD τ) arg1 fullShare x0 ∗ (∃ d, owns (c : Thread nD τ) arg2 fullShare d) ∗ (∃ d, owns (c : Thread nD τ) arg3 fullShare d) ∗ owns (c : Thread nD τ) arg4 fullShare Y
            ∗ (iprop(owns (c : Thread nD τ) arg1 fullShare x0 ∗ (∃ f, arg2.view.loc (c : Thread nD τ) ↦[arg2.view.set]{fullShare} arg2.view.writes (Elt F) f L1) ∗ (∃ f, arg3.view.loc (c : Thread nD τ) ↦[arg3.view.set]{fullShare} arg3.view.writes (Elt F) f L2) ∗ (arg4.view.loc (c : Thread nD τ) ↦[arg4.view.set]{fullShare} arg4.view.writes (Elt F) (harg4.unread Y) L3)) -∗ K ⟨⟩))
          ⊢ wp frame (wpE (defs₀ (F := F)) Variants.none c none) E (cc0_wquant i arg1 harg1 arg2 harg2 arg3 harg3 arg4 harg4) K } := by
  refine ⟨?_, ?_, ?_, fun E K Y => ?run⟩
  case run =>
    simp only [cc0_wquant_eq_skeleton]; unfold cc0_wquant_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton]
    unfold owns
    iintro ⟨⟨%f0, %hf0, H0⟩, ⟨%d1, %f1, -, H1⟩, ⟨%d2, %f2, -, H2⟩, ⟨%f3, %hf3, H3⟩, Hk⟩
    obtain rfl := harg1.eq_unread hf0; obtain rfl := harg4.eq_unread hf3
    sl_exec
    sl_step
    iapply Hk
    isplitl [H0]
    · iexists _; isplitr; · ipureintro; exact harg1.read_unread _
      iexact H0
    isplitl [H1]; · iexists _; iexact H1
    isplitl [H2]; · iexists _; iexact H2
    iexact H3

end Cert.WquantIdeal.Gen

end
-- ==== Proof.Quant.lean ====
/- The power-of-two scale of a group, as the kernel computes it and as the reference states it, over the extended reals.

   The kernel finds the exponent field `ef` of `t = amax * (1/448)` by trying its eight bits from the top
   (`Quant.efV`), and builds `scale = 2^(ef - 126)` and `inv = 2^(126 - ef)` as bit patterns. The reference takes
   `e = floor (log t / log 2) + 1`, `scale = 2^e`, `inv = 2^(-e)`. `Quant.scale_eq` and `Quant.inv_eq` say that the
   two agree wherever `amax = 0`, or `t` is a normal number and `amax` is finite. -/
module

public import Idealize.ShloMosaic.Lib.Pointwise

@[expose] public section

noncomputable section

namespace Cert.Quant

open Idealize.ShloMosaic

/-! ### The kernel's vector operations -/

section Vector
variable {F : FTy → Type} [FloatOps F] {S : Shape}

/-- One step of the search: the bit `b` is kept when the float of that exponent is still at most `t`. -/
def stepV (b : BitVec 32) (t : FVec F S .f32) (ef : IVec S 32) : IVec S 32 :=
  select (cmpf .oge t (bitcastToFloat .f32 (shli (addi ef (broadcast S b)) (broadcast S 23#32)))) (addi ef (broadcast S b)) ef

/-- The exponent field of `t`, found bit by bit. -/
def efV (t : FVec F S .f32) : IVec S 32 :=
  stepV 1#32 t (stepV 2#32 t (stepV 4#32 t (stepV 8#32 t (stepV 16#32 t (stepV 32#32 t (stepV 64#32 t (stepV 128#32 t (broadcast S 0#32))))))))

/-- Neither a zero or subnormal field nor an infinity's. -/
def okV (ef : IVec S 32) : IVec S 1 :=
  andi (cmpi .sgt ef (broadcast S 0#32)) (cmpi .slt ef (broadcast S 255#32))

/-- The scale of each group. -/
def scaleV (t : FVec F S .f32) : FVec F S .f32 :=
  bitcastToFloat .f32 (select (okV (efV t)) (shli (addi (efV t) (broadcast S 1#32)) (broadcast S 23#32)) (broadcast S 1065353216#32))

/-- The inverse scale of each group. -/
def invV (t : FVec F S .f32) : FVec F S .f32 :=
  bitcastToFloat .f32 (select (okV (efV t)) (shli (subi (broadcast S 253#32) (efV t)) (broadcast S 23#32)) (broadcast S 1065353216#32))

end Vector

/-! ### The same at one element -/

/-- One step of the search at an element. -/
def kstep (b : BitVec 32) (t : EReal) (ef : BitVec 32) : BitVec 32 :=
  Scalar.select (Ideal.cmp .oge t (Ideal.ofBits .f32 ((ef + b) <<< 23))) (ef + b) ef

/-- The exponent field of an element. -/
def kef (t : EReal) : BitVec 32 :=
  kstep 1#32 t (kstep 2#32 t (kstep 4#32 t (kstep 8#32 t (kstep 16#32 t (kstep 32#32 t (kstep 64#32 t (kstep 128#32 t 0#32)))))))

/-- Whether the field is a normal number's. -/
def kok (ef : BitVec 32) : BitVec 1 := IntOp.cmpi .sgt ef 0#32 &&& IntOp.cmpi .slt ef 255#32

/-- The scale of a group whose `amax * (1/448)` is `t`. -/
def kscale (t : EReal) : EReal :=
  Ideal.ofBits .f32 (Scalar.select (kok (kef t)) ((kef t + 1#32) <<< 23) 1065353216#32)

/-- The inverse scale of a group whose `amax * (1/448)` is `t`. -/
def kinv (t : EReal) : EReal :=
  Ideal.ofBits .f32 (Scalar.select (kok (kef t)) ((253#32 - kef t) <<< 23) 1065353216#32)

section
variable {S : Shape}

theorem stepV_apply (b : BitVec 32) (t : FVec Ideal S .f32) (ef : IVec S 32) (i : S.Idx) :
    stepV b t ef i = kstep b (t i) (ef i) := rfl

theorem efV_apply (t : FVec Ideal S .f32) (i : S.Idx) : efV t i = kef (t i) := by
  unfold efV kef
  simp only [stepV_apply]
  rfl

theorem okV_apply (ef : IVec S 32) (i : S.Idx) : okV ef i = kok (ef i) := rfl

theorem shli_const (x : IVec S 32) (i : S.Idx) : shli x (broadcast S 23#32) i = x i <<< 23 := rfl

theorem scaleV_apply (t : FVec Ideal S .f32) (i : S.Idx) : scaleV t i = kscale (t i) := by
  show Ideal.ofBits .f32 (Scalar.select (okV (efV t) i) (shli (addi (efV t) (broadcast S 1#32)) (broadcast S 23#32) i) 1065353216#32) = _
  rw [okV_apply, shli_const, show addi (efV t) (broadcast S 1#32) i = efV t i + 1#32 from rfl, efV_apply]
  rfl

theorem invV_apply (t : FVec Ideal S .f32) (i : S.Idx) : invV t i = kinv (t i) := by
  show Ideal.ofBits .f32 (Scalar.select (okV (efV t) i) (shli (subi (broadcast S 253#32) (efV t)) (broadcast S 23#32) i) 1065353216#32) = _
  rw [okV_apply, shli_const, show subi (broadcast S 253#32) (efV t) i = 253#32 - efV t i from rfl, efV_apply]
  rfl

end

/-! ### The float of an exponent field -/

theorem fields_exponent : ∀ n : Fin 256, ((BitVec.ofNat 32 n.val <<< 23).extractLsb' 31 1 == 1#1) = false
    ∧ ((BitVec.ofNat 32 n.val <<< 23).extractLsb' 23 8).toNat = n.val
    ∧ ((BitVec.ofNat 32 n.val <<< 23).extractLsb' 0 23).toNat = 0 := by decide +kernel

/-- The pattern of an exponent field alone is a power of two. -/
theorem ieee_of_fields (b : BitVec 32) (n : ℕ) (k1 : (b.extractLsb' 31 1 == 1#1) = false) (k2 : (b.extractLsb' 23 8).toNat = n)
    (k3 : (b.extractLsb' 0 23).toNat = 0) (h1 : 1 ≤ n) (h2 : n ≤ 254) :
    Ideal.ofBits .f32 b = (((2 : ℝ) ^ ((n : ℤ) - 127) : ℝ) : EReal) := by
  unfold Ideal.ofBits Ideal.ieee
  simp only [k1, k2, k3]
  rw [if_neg (by omega), if_neg (by omega)]
  congr 1
  have e1 : (2 : ℝ) ^ ((n : ℤ) - 127) = (2 : ℝ) ^ (23 : ℤ) * (2 : ℝ) ^ ((n : ℤ) - (2 ^ (8 - 1) - 1) - (23 : ℕ)) := by
    rw [← zpow_add₀ (by norm_num)]; congr 1; norm_num
  rw [e1]
  norm_num

theorem ofBits_exponent (e : BitVec 32) (h1 : 1 ≤ e.toNat) (h2 : e.toNat ≤ 254) :
    Ideal.ofBits .f32 (e <<< 23) = (((2 : ℝ) ^ ((e.toNat : ℤ) - 127) : ℝ) : EReal) := by
  have hk := fields_exponent ⟨e.toNat, by omega⟩
  have he : BitVec.ofNat 32 e.toNat = e := by simp
  rw [show (BitVec.ofNat 32 (⟨e.toNat, by omega⟩ : Fin 256).val) = e from he] at hk
  exact ieee_of_fields _ _ hk.1 hk.2.1 hk.2.2 h1 h2

theorem ofBits_exponent_top (e : BitVec 32) (h : e.toNat = 255) : Ideal.ofBits .f32 (e <<< 23) = ⊤ := by
  obtain rfl : e = 255#32 := BitVec.eq_of_toNat_eq h
  simp [Ideal.ofBits, Ideal.ieee]

/-! ### The search finds the field -/

theorem kstep_spec {t : EReal} {n : ℕ} (hn : n < 256)
    (H : ∀ e : BitVec 32, 1 ≤ e.toNat → e.toNat ≤ 255 → (Ideal.ofBits .f32 (e <<< 23) ≤ t ↔ e.toNat ≤ n))
    (b : ℕ) (hb0 : 0 < b) (hb : b ≤ 128) {ef : BitVec 32} (h1 : ef.toNat ≤ n) (h2 : n < ef.toNat + 2 * b) (h3 : ef.toNat + 2 * b ≤ 256) :
    (kstep (BitVec.ofNat 32 b) t ef).toNat ≤ n ∧ n < (kstep (BitVec.ofNat 32 b) t ef).toNat + b
      ∧ (kstep (BitVec.ofNat 32 b) t ef).toNat + b ≤ 256 := by
  have hs : (ef + BitVec.ofNat 32 b).toNat = ef.toNat + b := by
    rw [BitVec.toNat_add, BitVec.toNat_ofNat]; omega
  have hH := H (ef + BitVec.ofNat 32 b) (by omega) (by omega)
  rw [hs] at hH
  unfold kstep Ideal.cmp Scalar.select
  by_cases hc : Ideal.ofBits .f32 ((ef + BitVec.ofNat 32 b) <<< 23) ≤ t
  · simp only [hc, decide_true, BitVec.ofBool_true, if_true, hs]
    have := hH.1 hc
    omega
  · simp only [hc, decide_false, BitVec.ofBool_false]
    rw [if_neg (by decide)]
    have : ¬ ef.toNat + b ≤ n := fun h => hc (hH.2 h)
    omega

theorem kef_eq {t : EReal} {n : ℕ} (hn : n < 256)
    (H : ∀ e : BitVec 32, 1 ≤ e.toNat → e.toNat ≤ 255 → (Ideal.ofBits .f32 (e <<< 23) ≤ t ↔ e.toNat ≤ n)) :
    kef t = BitVec.ofNat 32 n := by
  have z : (0#32).toNat = 0 := rfl
  obtain ⟨a1, b1, c1⟩ := kstep_spec hn H 128 (by omega) (by omega) (ef := 0#32) (by omega) (by omega) (by omega)
  obtain ⟨a2, b2, c2⟩ := kstep_spec hn H 64 (by omega) (by omega) a1 (by omega) (by omega)
  obtain ⟨a3, b3, c3⟩ := kstep_spec hn H 32 (by omega) (by omega) a2 (by omega) (by omega)
  obtain ⟨a4, b4, c4⟩ := kstep_spec hn H 16 (by omega) (by omega) a3 (by omega) (by omega)
  obtain ⟨a5, b5, c5⟩ := kstep_spec hn H 8 (by omega) (by omega) a4 (by omega) (by omega)
  obtain ⟨a6, b6, c6⟩ := kstep_spec hn H 4 (by omega) (by omega) a5 (by omega) (by omega)
  obtain ⟨a7, b7, c7⟩ := kstep_spec hn H 2 (by omega) (by omega) a6 (by omega) (by omega)
  obtain ⟨a8, b8, c8⟩ := kstep_spec hn H 1 (by omega) (by omega) a7 (by omega) (by omega)
  apply BitVec.eq_of_toNat_eq
  rw [BitVec.toNat_ofNat, Nat.mod_eq_of_lt (by omega)]
  unfold kef
  omega

theorem kok_ofNat : ∀ n : Fin 256, kok (BitVec.ofNat 32 n.val) = BitVec.ofBool (decide (0 < n.val ∧ n.val < 255)) := by
  decide +kernel

/-! ### The reference's exponent -/

/-- The word `1/448` of the program, a positive real. -/
def c448 : ℝ := (2 ^ 23 + 1198373 : ℕ) * (2 : ℝ) ^ (-32 : ℤ)

theorem ofBits_c448 : Ideal.ofBits .f32 0x3B124925#32 = (c448 : EReal) := by
  have k2 : ((0x3B124925#32 : BitVec 32).extractLsb' 23 8).toNat = 118 := by decide
  have k1 : ((0x3B124925#32 : BitVec 32).extractLsb' 31 1 == 1#1) = false := by decide
  have k3 : ((0x3B124925#32 : BitVec 32).extractLsb' 0 23).toNat = 1198373 := by decide
  unfold Ideal.ofBits Ideal.ieee c448
  simp only [k1, k2, k3]
  norm_num

theorem c448_pos : 0 < c448 := by unfold c448; positivity

theorem ofBits_two : Ideal.ofBits .f32 0x40000000#32 = ((2 : ℝ) : EReal) := by
  have := ofBits_exponent 128#32 (by decide) (by decide)
  have e : (128#32 <<< 23 : BitVec 32) = 0x40000000#32 := by decide
  rw [e] at this; rw [this]; norm_num

theorem ofBits_lo : Ideal.ofBits .f32 0x00800000#32 = (((2 : ℝ) ^ (-126 : ℤ) : ℝ) : EReal) := by
  have := ofBits_exponent 1#32 (by decide) (by decide)
  have e : (1#32 <<< 23 : BitVec 32) = 0x00800000#32 := by decide
  rw [e] at this; rw [this]; norm_num

/-- The word `3.4e38` of the precondition. -/
theorem ofBits_hi : ∃ h : ℝ, h < (2 : ℝ) ^ (128 : ℤ) ∧ Ideal.ofBits .f32 0x7F7FC99E#32 = (h : EReal) := by
  have k2 : ((0x7F7FC99E#32 : BitVec 32).extractLsb' 23 8).toNat = 254 := by decide
  have k1 : ((0x7F7FC99E#32 : BitVec 32).extractLsb' 31 1 == 1#1) = false := by decide
  have k3 : ((0x7F7FC99E#32 : BitVec 32).extractLsb' 0 23).toNat = 8374686 := by decide
  refine ⟨(1 : ℝ) * ((2 ^ 23 + 8374686 : ℕ) : ℝ) * (2 : ℝ) ^ (104 : ℤ), by norm_num, ?_⟩
  unfold Ideal.ofBits Ideal.ieee
  simp only [k1, k2, k3]
  norm_num

/-- The reference's exponent of a group whose largest magnitude is `a`: zero at `a = 0`, else `floor (log t / log 2) + 1`. -/
def rexp (a : EReal) : EReal :=
  Scalar.select (Ideal.cmp .oeq a (Ideal.ofBits .f32 0x00000000#32)) (Ideal.ofBits .f32 0x00000000#32)
    (Ideal.liftRound Int.floor (Ideal.div (Ideal.log (a * Ideal.ofBits .f32 0x3B124925#32)) (Ideal.log (Ideal.ofBits .f32 0x40000000#32)))
      + Ideal.ofBits .f32 0x3F800000#32)

/-- Where the two quantisers are compared: an empty group, or one whose scaled maximum is a normal number. -/
def InRange (a : EReal) : Prop :=
  a = Ideal.ofBits .f32 0x00000000#32
    ∨ (Ideal.ofBits .f32 0x00800000#32 ≤ a * Ideal.ofBits .f32 0x3B124925#32 ∧ a ≤ Ideal.ofBits .f32 0x7F7FC99E#32)

theorem kef_zero : kef 0 = 0#32 := by
  refine kef_eq (n := 0) (by omega) fun e h1 h2 => ⟨fun h => ?_, fun h => by omega⟩
  exfalso
  rcases Nat.lt_or_ge e.toNat 255 with h3 | h3
  · rw [ofBits_exponent e h1 (by omega)] at h
    have : (0 : ℝ) < (2 : ℝ) ^ ((e.toNat : ℤ) - 127) := by positivity
    exact absurd (EReal.coe_le_coe_iff.1 (by simpa using h)) (not_le.2 this)
  · rw [ofBits_exponent_top e (by omega)] at h
    exact absurd h (by simp)

/-- The binary exponent of a positive real, by logarithms. -/
def lg (t : ℝ) : ℤ := ⌊Real.log t / Real.log 2⌋

theorem le_lg {t : ℝ} (ht : 0 < t) (z : ℤ) : z ≤ lg t ↔ (2 : ℝ) ^ z ≤ t := by
  have h2 : 0 < Real.log 2 := Real.log_pos (by norm_num)
  unfold lg
  rw [Int.le_floor, le_div_iff₀ h2, ← Real.log_zpow, Real.log_le_log_iff (by positivity) ht]

/-- A group in range that is not empty: its exponent `e`, in the kernel's field and in the reference. -/
theorem spec_of_inRange {a : EReal} (h0 : a ≠ 0) (h : InRange a) :
    ∃ e : ℤ, -126 ≤ e ∧ e ≤ 125 ∧ kef (a * Ideal.ofBits .f32 0x3B124925#32) = BitVec.ofNat 32 (e + 127).toNat
      ∧ rexp a = ((e + 1 : ℤ) : ℝ) := by
  rcases h with h | ⟨hlo, hhi⟩
  · exact absurd (h.trans Ideal.ofBits_zero_f32) h0
  obtain ⟨H, hH, eH⟩ := ofBits_hi
  rw [eH] at hhi
  rw [ofBits_c448, ofBits_lo] at hlo
  induction a with
  | bot =>
    exfalso
    rw [EReal.bot_mul_coe_of_pos c448_pos] at hlo
    exact absurd hlo (by simp)
  | top => exact absurd hhi (by simp)
  | coe r =>
    have hr : r ≤ H := EReal.coe_le_coe_iff.1 hhi
    rw [← EReal.coe_mul, EReal.coe_le_coe_iff] at hlo
    have ht0 : 0 < r * c448 := lt_of_lt_of_le (by positivity) hlo
    have hr0 : 0 < r := (pos_iff_pos_of_mul_pos ht0).2 c448_pos
    have htop : r * c448 < (2 : ℝ) ^ (126 : ℤ) := by
      have hc : c448 ≤ (2 : ℝ) ^ (-2 : ℤ) := by unfold c448; norm_num
      calc r * c448 ≤ H * (2 : ℝ) ^ (-2 : ℤ) := mul_le_mul hr hc c448_pos.le (hr0.le.trans hr)
        _ < (2 : ℝ) ^ (128 : ℤ) * (2 : ℝ) ^ (-2 : ℤ) := mul_lt_mul_of_pos_right hH (by positivity)
        _ = _ := by rw [← zpow_add₀ (by norm_num)]; norm_num
    have elo : (-126 : ℤ) ≤ lg (r * c448) := (le_lg ht0 _).2 hlo
    have ehi : lg (r * c448) < 126 := not_le.1 fun h => absurd ((le_lg ht0 _).1 h) (not_le.2 htop)
    refine ⟨lg (r * c448), elo, by omega, ?_, ?_⟩
    · rw [ofBits_c448, ← EReal.coe_mul]
      refine kef_eq (by omega) fun e h1 h2 => ?_
      rcases Nat.lt_or_ge e.toNat 255 with h3 | h3
      · rw [ofBits_exponent e h1 (by omega), EReal.coe_le_coe_iff]
        rw [← le_lg ht0]; omega
      · rw [ofBits_exponent_top e (by omega)]
        constructor
        · intro h; exact absurd h (by simp [← EReal.coe_mul])
        · intro h; omega
    · unfold rexp
      rw [Ideal.ofBits_zero_f32, Ideal.ofBits_one_f32, ofBits_two, ofBits_c448, ← EReal.coe_mul]
      have hlog2 : Real.log 2 ≠ 0 := (Real.log_pos (by norm_num)).ne'
      have l1 : Ideal.log ((r * c448 : ℝ) : EReal) = ((Real.log (r * c448) : ℝ) : EReal) := by
        show (if r * c448 ≤ 0 then (⊥ : EReal) else _) = _
        rw [if_neg (not_le.2 ht0)]
      have l2 : Ideal.log ((2 : ℝ) : EReal) = ((Real.log 2 : ℝ) : EReal) := by
        show (if (2 : ℝ) ≤ 0 then (⊥ : EReal) else _) = _
        rw [if_neg (by norm_num)]
      have l3 : Ideal.div ((Real.log (r * c448) : ℝ) : EReal) ((Real.log 2 : ℝ) : EReal) = ((Real.log (r * c448) / Real.log 2 : ℝ) : EReal) := by
        unfold Ideal.div
        rw [if_neg (by exact_mod_cast hlog2), ← EReal.coe_inv, ← EReal.coe_mul, ← div_eq_mul_inv]
      have l4 : Ideal.liftRound Int.floor ((Real.log (r * c448) / Real.log 2 : ℝ) : EReal) = ((lg (r * c448) : ℝ) : EReal) := by rfl
      have hne : ¬ ((r : ℝ) : EReal) = 0 := h0
      unfold Ideal.cmp Scalar.select
      simp only [hne, decide_false, BitVec.ofBool_false]
      rw [if_neg (by decide), l1, l2, l3, l4]
      push_cast; rfl

theorem rexp_zero : rexp 0 = 0 := by
  unfold rexp Ideal.cmp Scalar.select
  simp

theorem exp2_int (z : ℤ) : Ideal.exp2 (((z : ℤ) : ℝ) : EReal) = (((2 : ℝ) ^ z : ℝ) : EReal) := by
  show ((Real.rpow 2 (z : ℝ) : ℝ) : EReal) = _
  exact congrArg _ (Real.rpow_intCast 2 z)

theorem ofBits_one_word : Ideal.ofBits .f32 1065353216#32 = 1 := Ideal.ofBits_one_f32

/-- THE SCALES AGREE: the kernel's bit pattern is two to the reference's exponent. -/
theorem scale_eq {a : EReal} (h : InRange a) : kscale (a * Ideal.ofBits .f32 0x3B124925#32) = Ideal.exp2 (rexp a) := by
  by_cases h0 : a = 0
  · subst h0
    rw [zero_mul, rexp_zero]
    unfold kscale
    rw [kef_zero, show kok 0#32 = 0#1 from by decide]
    show Ideal.ofBits .f32 1065353216#32 = _
    rw [ofBits_one_word]
    have := exp2_int 0
    simpa using this.symm
  · obtain ⟨e, e1, e2, hk, hr⟩ := spec_of_inRange h0 h
    rw [hr, exp2_int]
    unfold kscale
    rw [hk, show kok (BitVec.ofNat 32 (e + 127).toNat) = 1#1 from
      (kok_ofNat ⟨(e + 127).toNat, by omega⟩).trans (by rw [decide_eq_true (by constructor <;> simp only <;> omega)]; rfl)]
    show Ideal.ofBits .f32 ((BitVec.ofNat 32 (e + 127).toNat + 1#32) <<< 23) = _
    have hs : (BitVec.ofNat 32 (e + 127).toNat + 1#32).toNat = (e + 127).toNat + 1 := by
      rw [BitVec.toNat_add, BitVec.toNat_ofNat]; simp; omega
    rw [ofBits_exponent _ (by omega) (by omega), hs]
    congr 2; omega

/-- THE INVERSE SCALES AGREE. -/
theorem inv_eq {a : EReal} (h : InRange a) :
    kinv (a * Ideal.ofBits .f32 0x3B124925#32) = Ideal.exp2 (Ideal.ofBits .f32 0x00000000#32 - rexp a) := by
  rw [Ideal.ofBits_zero_f32]
  by_cases h0 : a = 0
  · subst h0
    rw [zero_mul, rexp_zero]
    unfold kinv
    rw [kef_zero, show kok 0#32 = 0#1 from by decide]
    show Ideal.ofBits .f32 1065353216#32 = _
    rw [ofBits_one_word]
    have := exp2_int 0
    simpa using this.symm
  · obtain ⟨e, e1, e2, hk, hr⟩ := spec_of_inRange h0 h
    have hz : (0 : EReal) - (((e + 1 : ℤ) : ℝ) : EReal) = (((-(e + 1) : ℤ) : ℝ) : EReal) := by
      rw [zero_sub]; push_cast; rfl
    rw [hr, hz, exp2_int]
    unfold kinv
    rw [hk, show kok (BitVec.ofNat 32 (e + 127).toNat) = 1#1 from
      (kok_ofNat ⟨(e + 127).toNat, by omega⟩).trans (by rw [decide_eq_true (by constructor <;> simp only <;> omega)]; rfl)]
    show Ideal.ofBits .f32 ((253#32 - BitVec.ofNat 32 (e + 127).toNat) <<< 23) = _
    have hs : (253#32 - BitVec.ofNat 32 (e + 127).toNat).toNat = 253 - (e + 127).toNat := by
      rw [BitVec.toNat_sub, BitVec.toNat_ofNat]; simp; omega
    rw [ofBits_exponent _ (by omega) (by omega), hs]
    congr 2; omega

end Cert.Quant

end
-- ==== Proof.Tile.lean ====
/- One block of a blockwise quantised product: the vector operations the kernel runs on it, written once over the number of
   groups, and what each leaves at an index over the extended reals.

   A block has 256 rows and `W` columns in groups of 128. `tV` is each group's largest magnitude times `1/448`;
   `vals` a group's elements times the group's inverse scale, clipped to ±448; `out` one 256 by 128 tile of the product,
   the sum over the groups of a partial product times the two scales. -/
module

public import proofs.«01_k».proof.Proof.Quant
public import Idealize.ShloMosaic.Lib.Pipeline.ValueKit
public import Idealize.ShloMosaic.Lib.Pipeline.ReadBack

@[expose] public section

set_option maxRecDepth 16384

noncomputable section

namespace Cert.Tile

open Idealize.ShloMosaic
open scoped BigOperators

abbrev S256x1 : Shape := ⟨2, ![256, 1]⟩
abbrev S256 : Shape := ⟨1, ![256]⟩
abbrev S256x128 : Shape := ⟨2, ![256, 128]⟩
abbrev S128x256 : Shape := ⟨2, ![128, 256]⟩
abbrev S128x128 : Shape := ⟨2, ![128, 128]⟩
abbrev S1x256 : Shape := ⟨2, ![1, 256]⟩

/-- The block of `W` columns. -/
abbrev SX (W : ℕ) : Shape := ⟨2, ![256, W]⟩
/-- The transposed scales of `K` groups. -/
abbrev ST (K : ℕ) : Shape := ⟨2, ![K, 256]⟩

theorem slices_cols {W o n : ℕ} (h : o + n ≤ W) : Shape.Slices (SX W) ![0, o] ⟨2, ![256, n]⟩ :=
  ⟨rfl, fun a => by
    match a with
    | ⟨0, _⟩ => exact Nat.le_refl 256
    | ⟨1, _⟩ => exact h⟩

theorem slices_row {K g : ℕ} (h : g < K) : Shape.Slices (ST K) ![g, 0] S1x256 :=
  ⟨rfl, fun a => by
    match a with
    | ⟨0, _⟩ => exact h
    | ⟨1, _⟩ => exact Nat.le_refl 256⟩

/-- The contraction of a 128 by 128 and a 128 by 256 tile. -/
def dot : DotDims S128x128 S128x256 S128x256 where
  lhsContracting := [1]
  rhsContracting := [0]
  lhsNonContracting := [0]
  rhsNonContracting := [1]
  lhsBatch := []
  rhsBatch := []
  wf := by decide

section Vector
variable {F : FTy → Type} [FloatOps F]

/-- The largest magnitudes of the 128 columns from `o`. -/
def col {W : ℕ} (X : FVec F (SX W) .bf16) (o : ℕ) (h : o + 128 ≤ W) : FVec F S256x1 .bf16 :=
  shapeCast S256x1 (multiReduction .maximumf [1] S256 (extractStridedSlice S256x128 ![0, o] (absf X) (slices_cols h)) 0xFF80#16
    (by decide) (.inr rfl) rfl) (by decide)

theorem conc {W K : ℕ} (hK : 128 * K ≤ W) (X : FVec F (SX W) .bf16) (hc : Shape.Concatenates (List.replicate K S256x1) (SX K) 1) :
    Shape.Concatenates ((List.ofFn fun g : Fin K => (⟨S256x1, col X (128 * g.val) (by omega)⟩ : (s : Shape) × (s.Idx → F .bf16))).map (·.1)) (SX K) 1 := by
  rw [List.map_ofFn]; exact (List.ofFn_const K S256x1).symm ▸ hc

/-- Each group's largest magnitude times `1/448`. -/
def tV {W : ℕ} (K : ℕ) (hK : 128 * K ≤ W) (X : FVec F (SX W) .bf16)
    (hc : Shape.Concatenates (List.replicate K S256x1) (SX K) 1) :
    FVec F (SX K) .f32 :=
  mulf (extf .f32 (concatenate (SX K) 1 (List.ofFn fun g : Fin K => ⟨S256x1, col X (128 * g.val) (by omega)⟩)
    (conc hK X hc)) (by decide))
    (broadcast (SX K) (Scalar.ofBits .f32 0x3B124925#32))

/-- A group's elements times its inverse scale, clipped. -/
def vals {W K : ℕ} (X : FVec F (SX W) .bf16) (inv : FVec F (SX K) .f32) (g : ℕ) (hg : g + 1 ≤ K) (h : 128 * g + 128 ≤ W) : FVec F S256x128 .f32 :=
  minimumf (broadcast S256x128 (Scalar.ofBits .f32 0x43E00000#32))
    (maximumf (broadcast S256x128 (Scalar.ofBits .f32 0xC3E00000#32))
      (mulf (extf .f32 (extractStridedSlice S256x128 ![0, 128 * g] X (slices_cols h)) (by decide))
        (broadcastTo S256x128 (extractStridedSlice S256x1 ![0, g] inv (slices_cols hg)) (by decide))))

/-- A group's codes. -/
def codes (v : FVec F S256x128 .f32) : FVec F S256x128 .fp8e4m3 := truncf .fp8e4m3 v (by decide)

/-- A group's codes, transposed. -/
def codesT (v : FVec F S256x128 .f32) : FVec F S128x256 .fp8e4m3 :=
  shapeCast S128x256 (truncf .fp8e4m3 (transpose S128x256 [1, 0] v (by decide)) (by decide)) (by decide)

/-- One group's partial product times the two scales. -/
def term {K : ℕ} (st : FVec F (ST K) .f32) (wt : FVec F S128x128 .fp8e4m3) (xt : FVec F S128x256 .fp8e4m3) (s : F .f32) (g : ℕ) (hg : g < K) :
    FVec F S128x256 .f32 :=
  mulf (matmul dot none wt xt (constant S128x256 .f32 0x00000000#32))
    (broadcastTo S128x256 (mulf (extractStridedSlice S1x256 ![g, 0] st (slices_row hg)) (broadcast S1x256 s)) (by decide))

/-- The tile: the groups' terms added in order, transposed back. -/
def out {K : ℕ} (st : FVec F (ST K) .f32) (wt : Fin K → FVec F S128x128 .fp8e4m3) (xt : Fin K → FVec F S128x256 .fp8e4m3) (s : Fin K → F .f32) :
    FVec F S256x128 .bf16 :=
  truncf .bf16 (transpose S256x128 [1, 0]
    ((List.finRange K).foldl (fun a g => addf a (term st (wt g) (xt g) (s g) g.val g.isLt)) (broadcast S128x256 (Scalar.ofBits .f32 0x00000000#32)))
    (by decide)) (by decide)

end Vector

/-! ### At an index, over the extended reals -/

/-- The largest magnitude of a group of 128. -/
def amax (x : Fin 128 → EReal) : EReal := Finset.univ.fold max ⊥ fun k => max (x k) (-(x k))

/-- The clip to the range of the codes. -/
def clip (v : EReal) : EReal := min (Ideal.ofBits .f32 0x43E00000#32) (max (Ideal.ofBits .f32 0xC3E00000#32) v)

theorem ofBits_bot_bf16 : Ideal.ofBits .bf16 0xFF80#16 = ⊥ := by simp [Ideal.ofBits, Ideal.ieee]
theorem ofBits_bot_f32 : Ideal.ofBits .f32 0xFF800000#32 = ⊥ := by simp [Ideal.ofBits, Ideal.ieee]

theorem norm_eq_ix2 {n m : ℕ} (f : (⟨2, ![n, m]⟩ : Shape).Idx) (r : Fin n) (c : Fin m) (h0 : (f 0).val = r.val) (h1 : (f 1).val = c.val) :
    Shape.Idx.norm f = ix2 r c := by
  funext a
  apply Fin.ext
  match a with
  | ⟨0, _⟩ => exact h0
  | ⟨1, _⟩ => exact h1

theorem col_apply {W : ℕ} (X : FVec Ideal (SX W) .bf16) (o : ℕ) (h : o + 128 ≤ W) (r : Fin 256) :
    col X o h (ix2 r 0) = amax fun k => X (ix2 r ⟨o + k.val, by omega⟩) := by
  unfold col amax
  pointwise
  rw [ofBits_bot_bf16]
  congr 1
  funext k
  rw [norm_eq_ix2 _ r ⟨o + k.val, by omega⟩ (Nat.zero_add _) rfl]
  rfl

theorem tV_apply {W K : ℕ} (hK : 128 * K ≤ W) (X : FVec Ideal (SX W) .bf16) (hc) (r : Fin 256) (g : Fin K) :
    tV K hK X hc (ix2 r g) = (amax fun k => X (ix2 r ⟨128 * g.val + k.val, by omega⟩)) * Ideal.ofBits .f32 0x3B124925#32 := by
  refine congrArg (· * Ideal.ofBits .f32 0x3B124925#32) (Eq.trans (concatenate_ofFn_unit_apply (t := SX K) (s₁ := S256x1) 1
    (fun g : Fin K => col X (128 * g.val) (by omega)) (conc hK X hc) rfl rfl (ix2 r g) g rfl (ix2 r 0) (fun b hb => ?_)) (col_apply ..))
  match b with
  | ⟨0, _⟩ => rfl
  | ⟨1, _⟩ => exact absurd rfl hb

theorem vals_apply {W K : ℕ} (X : FVec Ideal (SX W) .bf16) (inv : FVec Ideal (SX K) .f32) (g : ℕ) (hg h) (r : Fin 256) (k : Fin 128) :
    vals X inv g hg h (ix2 r k) = clip (X (ix2 r ⟨128 * g + k.val, by omega⟩) * inv (ix2 r ⟨g, hg⟩)) := by
  unfold vals clip
  pointwise
  rw [norm_eq_ix2 _ r ⟨128 * g + k.val, by omega⟩ (Nat.zero_add _) rfl, norm_eq_ix2 _ r ⟨g, hg⟩ (Nat.zero_add _) rfl]

theorem codes_apply (v : FVec Ideal S256x128 .f32) (j : S256x128.Idx) : codes v j = v j := rfl

theorem codesT_apply (v : FVec Ideal S256x128 .f32) (k : Fin 128) (r : Fin 256) : codesT v (ix2 k r) = v (ix2 r k) := by
  unfold codesT
  pointwise

theorem term_apply {K : ℕ} (st : FVec Ideal (ST K) .f32) (wt : FVec Ideal S128x128 .fp8e4m3) (xt : FVec Ideal S128x256 .fp8e4m3) (s : EReal)
    (g : ℕ) (hg : g < K) (n : Fin 128) (r : Fin 256) :
    term (F := Ideal) st wt xt s g hg (ix2 n r) = (∑ k : Fin 128, wt (ix2 n k) * xt (ix2 k r)) * (st (ix2 ⟨g, hg⟩ r) * s) := by
  unfold term dot
  pointwise
  rw [norm_eq_ix2 _ ⟨g, hg⟩ r rfl (Nat.zero_add _)]

theorem foldl_apply {K : ℕ} (f : Fin K → FVec Ideal S128x256 .f32) (a : FVec Ideal S128x256 .f32) (j : S128x256.Idx) :
    ∀ l : List (Fin K), l.foldl (fun a g => addf a (f g)) a j = a j + (l.map fun g => f g j).sum := by
  intro l
  induction l generalizing a with
  | nil => simp
  | cons g l ih =>
    rw [List.foldl_cons, ih, List.map_cons, List.sum_cons, ← add_assoc]
    rfl

theorem out_apply {K : ℕ} (st : FVec Ideal (ST K) .f32) (wt : Fin K → FVec Ideal S128x128 .fp8e4m3) (xt : Fin K → FVec Ideal S128x256 .fp8e4m3)
    (s : Fin K → EReal) (r : Fin 256) (n : Fin 128) :
    out (F := Ideal) st wt xt s (ix2 r n) = ∑ g : Fin K, (∑ k : Fin 128, wt g (ix2 n k) * xt g (ix2 k r)) * (st (ix2 g r) * s g) := by
  have h : out (F := Ideal) st wt xt s (ix2 r n)
      = (List.finRange K).foldl (fun a g => addf a (term st (wt g) (xt g) (s g) g.val g.isLt)) (broadcast S128x256 (Scalar.ofBits .f32 0x00000000#32)) (ix2 n r) := by
    unfold out
    pointwise
  rw [h, foldl_apply]
  have z : (broadcast S128x256 (Scalar.ofBits .f32 0x00000000#32) : FVec Ideal S128x256 .f32) (ix2 n r) = 0 := Ideal.ofBits_zero_f32
  rw [z, zero_add, ← List.ofFn_eq_map, List.sum_ofFn]
  exact Finset.sum_congr rfl fun g _ => term_apply ..

/-! ### A buffer filled by stores of 128 columns, or of 128 rows -/

/-- Placing an index of a unit rectangle of a rank-two array. -/
theorem emb_unit2 {R W n m o p : ℕ} (inb : ∀ a : Fin 2, ![o, p] a + ![n, m] a ≤ ![R, W] a) (a : Fin n) (b : Fin m)
    (h0 : o + a.val < R) (h1 : p + b.val < W) :
    (Rect.unit (s := ⟨2, ![R, W]⟩) ![o, p] ![n, m] inb).emb (ix2 a b) = ix2 ⟨o + a.val, h0⟩ ⟨p + b.val, h1⟩ := by
  funext c
  apply Fin.ext
  match c with
  | ⟨0, _⟩ => show o + 1 * a.val = o + a.val; omega
  | ⟨1, _⟩ => show p + 1 * b.val = p + b.val; omega

/-- The columns' contents: column `w` is column `w % 128` of piece `w / 128`. -/
def colsG {R W N : ℕ} {α : Type} (hW : W = 128 * N) (p : Fin N → (⟨2, ![R, 128]⟩ : Shape).Idx → α) (j : (⟨2, ![R, W]⟩ : Shape).Idx) : α :=
  have h : (j 1).val < W := (j 1).isLt
  p ⟨(j 1).val / 128, by omega⟩ (ix2 (j 0) ⟨(j 1).val % 128, by omega⟩)

/-- The rows' contents: row `w` is row `w % 128` of piece `w / 128`. -/
def rowsG {R W N : ℕ} {α : Type} (hW : W = 128 * N) (p : Fin N → (⟨2, ![128, R]⟩ : Shape).Idx → α) (j : (⟨2, ![W, R]⟩ : Shape).Idx) : α :=
  have h : (j 0).val < W := (j 0).isLt
  p ⟨(j 0).val / 128, by omega⟩ (ix2 ⟨(j 0).val % 128, by omega⟩ (j 1))

theorem colsG_at {R W N : ℕ} {α : Type} (hW : W = 128 * N) (p : Fin N → (⟨2, ![R, 128]⟩ : Shape).Idx → α) (r : Fin R) (g : Fin N) (k : Fin 128)
    (h : 128 * g.val + k.val < W) : colsG hW p (ix2 r ⟨128 * g.val + k.val, h⟩) = p g (ix2 r k) := by
  have h1 : (⟨(128 * g.val + k.val) / 128, by omega⟩ : Fin N) = g := Fin.ext (by simp only; omega)
  have h2 : (⟨(128 * g.val + k.val) % 128, by omega⟩ : Fin 128) = k := Fin.ext (by simp only; omega)
  show p ⟨(128 * g.val + k.val) / 128, _⟩ (ix2 r ⟨(128 * g.val + k.val) % 128, _⟩) = _
  rw [h1, h2]

theorem rowsG_at {R W N : ℕ} {α : Type} (hW : W = 128 * N) (p : Fin N → (⟨2, ![128, R]⟩ : Shape).Idx → α) (r : Fin R) (g : Fin N) (k : Fin 128)
    (h : 128 * g.val + k.val < W) : rowsG hW p (ix2 ⟨128 * g.val + k.val, h⟩ r) = p g (ix2 k r) := by
  have h1 : (⟨(128 * g.val + k.val) / 128, by omega⟩ : Fin N) = g := Fin.ext (by simp only; omega)
  have h2 : (⟨(128 * g.val + k.val) % 128, by omega⟩ : Fin 128) = k := Fin.ext (by simp only; omega)
  show p ⟨(128 * g.val + k.val) / 128, _⟩ (ix2 ⟨(128 * g.val + k.val) % 128, _⟩ r) = _
  rw [h1, h2]

theorem canon_cols {e : EltTy} {R W N : ℕ} (hW : W = 128 * N) (inb : ∀ g : Fin N, ∀ a : Fin 2, ![0, 128 * g.val] a + ![R, 128] a ≤ ![R, W] a)
    (p : Fin N → (⟨2, ![R, 128]⟩ : Shape).Idx → Elt Ideal e) (r : Fin R) (w : Fin W) :
    View.canon (Val := Elt Ideal) (e := e) ((List.finRange N).reverse.map fun g =>
        (⟨Rect.unit (s := ⟨2, ![R, W]⟩) ![0, 128 * g.val] ![R, 128] (inb g), p g⟩ : View.Piece (Elt Ideal) ⟨2, ![R, W]⟩ e)) (ix2 r w)
      = p ⟨w.val / 128, by omega⟩ (ix2 r ⟨w.val % 128, by omega⟩) := by
  refine View.canon_apply_of_pieces (colsG hW p) _ (fun pc hpc x => ?_) _ ?_
  · obtain ⟨g, -, rfl⟩ := List.mem_map.1 hpc
    obtain ⟨a, k, rfl⟩ : ∃ (a : Fin R) (k : Fin 128), x = ix2 a k := ⟨x 0, x 1, eq_ix2 x⟩
    refine (colsG_at hW p a g k (by omega)).symm.trans (congrArg _ ?_)
    refine Eq.symm ((emb_unit2 (inb g) a k (by omega) (by omega)).trans ?_)
    congr 1
    exact Fin.ext (Nat.zero_add _)
  · refine ⟨_, List.mem_map.2 ⟨⟨w.val / 128, by omega⟩, by simp, rfl⟩, (Rect.mem_set_unit (inb := inb ⟨w.val / 128, by omega⟩)).2 fun c => ?_⟩
    match c with
    | ⟨0, _⟩ => exact ⟨Nat.zero_le _, by show r.val < 0 + R; omega⟩
    | ⟨1, _⟩ => exact ⟨by show 128 * (w.val / 128) ≤ w.val; omega, by show w.val < 128 * (w.val / 128) + 128; omega⟩

theorem canon_rows {e : EltTy} {R W N : ℕ} (hW : W = 128 * N) (inb : ∀ g : Fin N, ∀ a : Fin 2, ![128 * g.val, 0] a + ![128, R] a ≤ ![W, R] a)
    (p : Fin N → (⟨2, ![128, R]⟩ : Shape).Idx → Elt Ideal e) (w : Fin W) (r : Fin R) :
    View.canon (Val := Elt Ideal) (e := e) ((List.finRange N).reverse.map fun g =>
        (⟨Rect.unit (s := ⟨2, ![W, R]⟩) ![128 * g.val, 0] ![128, R] (inb g), p g⟩ : View.Piece (Elt Ideal) ⟨2, ![W, R]⟩ e)) (ix2 w r)
      = p ⟨w.val / 128, by omega⟩ (ix2 ⟨w.val % 128, by omega⟩ r) := by
  refine View.canon_apply_of_pieces (rowsG hW p) _ (fun pc hpc x => ?_) _ ?_
  · obtain ⟨g, -, rfl⟩ := List.mem_map.1 hpc
    obtain ⟨k, a, rfl⟩ : ∃ (k : Fin 128) (a : Fin R), x = ix2 k a := ⟨x 0, x 1, eq_ix2 x⟩
    refine (rowsG_at hW p a g k (by omega)).symm.trans (congrArg _ ?_)
    refine Eq.symm ((emb_unit2 (inb g) k a (by omega) (by omega)).trans ?_)
    congr 1
    exact Fin.ext (Nat.zero_add _)
  · refine ⟨_, List.mem_map.2 ⟨⟨w.val / 128, by omega⟩, by simp, rfl⟩, (Rect.mem_set_unit (inb := inb ⟨w.val / 128, by omega⟩)).2 fun c => ?_⟩
    match c with
    | ⟨0, _⟩ => exact ⟨by show 128 * (w.val / 128) ≤ w.val; omega, by show w.val < 128 * (w.val / 128) + 128; omega⟩
    | ⟨1, _⟩ => exact ⟨Nat.zero_le _, by show r.val < 0 + R; omega⟩

/-! ### The quantised rows and their product -/

/-- Group `g` of row `r`. -/
def grp {R W : ℕ} (K : ℕ) (hW : W = 128 * K) (X : FVec Ideal (⟨2, ![R, W]⟩ : Shape) .bf16) (r : Fin R) (g : Fin K) : Fin 128 → EReal :=
  fun k => X (ix2 r ⟨128 * g.val + k.val, by omega⟩)

/-- `amax * (1/448)` of a group. -/
def gt (x : Fin 128 → EReal) : EReal := amax x * Ideal.ofBits .f32 0x3B124925#32

/-- A code: the element times the group's inverse scale, clipped. -/
def code (x : Fin 128 → EReal) (k : Fin 128) : EReal := clip (x k * Quant.kinv (gt x))

/-- The product of one quantised row with one row of codes `w`, each with a scale per group. -/
def prod {K : ℕ} (x w : Fin K → Fin 128 → EReal) (s : Fin K → EReal) : EReal :=
  ∑ g : Fin K, (∑ k : Fin 128, w g k * code (x g) k) * (Quant.kscale (gt (x g)) * s g)

/-- A position inside the row by its group. -/
theorem pos_eq {W K : ℕ} (hW : W = 128 * K) (w : Fin W) (h : 128 * (w.val / 128) + w.val % 128 < W) :
    (⟨128 * (w.val / 128) + w.val % 128, h⟩ : Fin W) = w := Fin.ext (Nat.div_add_mod _ _)

end Cert.Tile

end
-- ==== Proof.WquantOps.lean ====
/- The vector operations of the weight-quantising kernel on one block of 128 rows, and its run's pieces in terms of them. -/
module
public import proofs.«01_k».proof.Proof.WquantRun
public import proofs.«01_k».proof.Proof.Tile
@[expose] public section
set_option maxRecDepth 16384

noncomputable section

namespace Cert.WquantIdeal.Block

open Cert.WquantIdeal Cert.WquantIdeal.Gen Idealize.ShloMosaic Idealize.ShloMosaic.TcCoe Idealize.SL.Sem

variable {F : FTy → Type} [FloatOps F]

/-- A tile's largest magnitude times `1/448`. -/
def tT (X : FVec F S128x128 .f32) : FVec F S1x1 .f32 :=
  mulf (shapeCast S1x1 (multiReduction .maximumf [1] S1 (shapeCast S1x128 (multiReduction .maximumf [0] S128 (absf X) 0xFF800000#32
    reduces_S128x128_S128 (.inl rfl) rfl) shapeCasts_S128_S1x128) 0xFF800000#32 reduces_S1x128_S1 (.inl rfl) rfl) shapeCasts_S1_S1x1)
    (broadcast S1x1 (Scalar.ofBits .f32 0x3B124925#32))

/-- A tile's elements times its inverse scale, clipped. -/
def vT (X : FVec F S128x128 .f32) : FVec F S128x128 .f32 :=
  minimumf (broadcast S128x128 (Scalar.ofBits .f32 0x43E00000#32))
    (maximumf (broadcast S128x128 (Scalar.ofBits .f32 0xC3E00000#32))
      (mulf X (broadcastTo S128x128 (Quant.invV (tT X)) broadcasts_S1x1_S128x128)))

/-- The tile's codes. -/
def cT (X : FVec F S128x128 .f32) : FVec F S128x128 .fp8e4m3 := truncf .fp8e4m3 (vT X) bitsLt_fp8e4m3_f32

/-- The tile's codes, transposed. -/
def cTT (X : FVec F S128x128 .f32) : FVec F S128x128 .fp8e4m3 :=
  truncf .fp8e4m3 (transpose S128x128 [1, 0] (vT X) transposes_S128x128_p1_0_S128x128) bitsLt_fp8e4m3_f32

/-- The row of the tiles' scales, the scales put in one after another. -/
def rowT (X : Fin 6 → FVec F S128x128 .f32) : FVec F S1x6 .f32 :=
  (List.finRange 6).foldl (fun r j => select (cmpi .eq (iota .tc S1x6 32 [1] iota_S1x6_d1_w32) (broadcast S1x6 (BitVec.ofNat 32 j.val)))
    (broadcastTo S1x6 (shapeCast S1x1 (Quant.scaleV (tT (X j))) shapeCasts_S1x1_S1x1) broadcasts_S1x1_S1x6) r)
    (broadcast S1x6 (Scalar.ofBits .f32 0x00000000#32))

theorem inb1 (j : Fin 6) : ∀ a : Fin 2, ![0, 128 * j.val] a + S128x128.size a ≤ S128x768.size a := fun a => by
  match a with
  | ⟨0, _⟩ => exact Nat.le_refl 128
  | ⟨1, _⟩ => show 128 * j.val + 128 ≤ 768; omega

theorem inb2 (j : Fin 6) : ∀ a : Fin 2, ![128 * j.val, 0] a + S128x128.size a ≤ S768x128.size a := fun a => by
  match a with
  | ⟨1, _⟩ => exact Nat.le_refl 128
  | ⟨0, _⟩ => show 128 * j.val + 128 ≤ 768; omega

/-- Tile `j` of a block. -/
def tile (x0 : Vec F S128x768 .f32) (j : Fin 6) : FVec F S128x128 .f32 := View.ld x0 (Rect.unit (s := S128x768) ![0, 128 * j.val] S128x128.size (inb1 j))

def piece1 (x0 : Vec F S128x768 .f32) (j : Fin 6) : View.Piece (Elt F) S128x768 .fp8e4m3 := ⟨Rect.unit ![0, 128 * j.val] S128x128.size (inb1 j), cT (tile x0 j)⟩
def piece2 (x0 : Vec F S128x768 .f32) (j : Fin 6) : View.Piece (Elt F) S768x128 .fp8e4m3 := ⟨Rect.unit ![128 * j.val, 0] S128x128.size (inb2 j), cTT (tile x0 j)⟩

/-- The pieces of the codes, -/
def P1 (x0 : Vec F S128x768 .f32) : List (View.Piece (Elt F) S128x768 .fp8e4m3) := (List.finRange 6).reverse.map (piece1 x0)
/-- of the transposed codes, -/
def P2 (x0 : Vec F S128x768 .f32) : List (View.Piece (Elt F) S768x128 .fp8e4m3) := (List.finRange 6).reverse.map (piece2 x0)
/-- and of the scales. -/
def P3 (i : grid0.Coords) (x0 : Vec F S128x768 .f32) : List (View.Piece (Elt F) S32x6 .f32) := [⟨Rect.unit (k0_off1 i) S1x6.size (k0_off1_inb i), rowT (tile x0)⟩]

section
variable (c : Dev nD) (i : grid0.Coords) (arg1 : Memref sig .tc .vmem S128x768 .f32) (harg1 : arg1.IsWhole) (arg2 : Memref sig .tc .vmem S128x768 .fp8e4m3) (harg2 : arg2.IsWhole) (arg3 : Memref sig .tc .vmem S768x128 .fp8e4m3) (harg3 : arg3.IsWhole) (arg4 : Memref sig .tc .vmem S32x6 .f32) (harg4 : arg4.IsWhole)
    (x0 : Vec F S128x768 .f32)

/-- Tile `j` as loaded. -/
def ldT (j : Fin 6) : FVec F S128x128 .f32 := View.readAt (Elt F) arg1.view (Rect.unit (s := S128x768) ![0, 128 * j.val] S128x128.size (inb1 j)).toLoadRect (harg1.unread x0)

theorem ldT_eq : ldT arg1 harg1 x0 = tile x0 := funext fun j => by
  unfold ldT tile
  rw [View.readAt_eq_ld, harg1.read_unread]

theorem pieces1 : (kernelRun0 c i arg1 harg1 arg2 harg2 arg3 harg3 arg4 harg4 x0).1 = P1 x0 := by
  refine Eq.trans (b := (List.finRange 6).reverse.map fun j => (⟨Rect.unit ![0, 128 * j.val] S128x128.size (inb1 j), cT (ldT arg1 harg1 x0 j)⟩ : View.Piece (Elt F) S128x768 .fp8e4m3)) rfl ?_
  rw [ldT_eq]; rfl

theorem pieces2 : (kernelRun0 c i arg1 harg1 arg2 harg2 arg3 harg3 arg4 harg4 x0).2.1 = P2 x0 := by
  refine Eq.trans (b := (List.finRange 6).reverse.map fun j => (⟨Rect.unit ![128 * j.val, 0] S128x128.size (inb2 j), cTT (ldT arg1 harg1 x0 j)⟩ : View.Piece (Elt F) S768x128 .fp8e4m3)) rfl ?_
  rw [ldT_eq]; rfl

theorem pieces3 : (kernelRun0 c i arg1 harg1 arg2 harg2 arg3 harg3 arg4 harg4 x0).2.2.1 = P3 i x0 := by
  refine Eq.trans (b := [(⟨Rect.unit (k0_off1 i) S1x6.size (k0_off1_inb i), rowT (ldT arg1 harg1 x0)⟩ : View.Piece (Elt F) S32x6 .f32)]) rfl ?_
  rw [ldT_eq]; rfl
end

open Idealize.SL Idealize.SL.RA Idealize.SL.BI in
open scoped Idealize.SL.BI in
open Idealize.SL.BI.BIBase Idealize.SL.ProofMode in
/-- The body's run, its pieces named. -/
theorem runs (c : Dev nD) (i : grid0.Coords) (arg1 : Memref sig .tc .vmem S128x768 .f32) (harg1 : arg1.IsWhole) (arg2 : Memref sig .tc .vmem S128x768 .fp8e4m3) (harg2 : arg2.IsWhole) (arg3 : Memref sig .tc .vmem S768x128 .fp8e4m3) (harg3 : arg3.IsWhole) (arg4 : Memref sig .tc .vmem S32x6 .f32) (harg4 : arg4.IsWhole)
    (x0 : Vec F S128x768 .f32) (E : Set ℕ) (K : PUnit → sProp (MT nD τ sig Unit (Elt F) ℕ (UR sig nD τ) ℕ)) (Y : Vec F S32x6 .f32) :
    iprop(owns (c : Thread nD τ) arg1 fullShare x0 ∗ (∃ d, owns (c : Thread nD τ) arg2 fullShare d) ∗ (∃ d, owns (c : Thread nD τ) arg3 fullShare d) ∗ owns (c : Thread nD τ) arg4 fullShare Y
        ∗ (iprop(owns (c : Thread nD τ) arg1 fullShare x0 ∗ (∃ f, arg2.view.loc (c : Thread nD τ) ↦[arg2.view.set]{fullShare} arg2.view.writes (Elt F) f (P1 x0)) ∗ (∃ f, arg3.view.loc (c : Thread nD τ) ↦[arg3.view.set]{fullShare} arg3.view.writes (Elt F) f (P2 x0)) ∗ (arg4.view.loc (c : Thread nD τ) ↦[arg4.view.set]{fullShare} arg4.view.writes (Elt F) (harg4.unread Y) (P3 i x0))) -∗ K ⟨⟩))
      ⊢ wp frame (wpE (defs₀ (F := F)) Variants.none c none) E (cc0_wquant i arg1 harg1 arg2 harg2 arg3 harg3 arg4 harg4) K := by
  have h1 := pieces1 c i arg1 harg1 arg2 harg2 arg3 harg3 arg4 harg4 x0
  have h2 := pieces2 c i arg1 harg1 arg2 harg2 arg3 harg3 arg4 harg4 x0
  have h3 := pieces3 c i arg1 harg1 arg2 harg2 arg3 harg3 arg4 harg4 x0
  generalize kernelRun0 c i arg1 harg1 arg2 harg2 arg3 harg3 arg4 harg4 x0 = R at h1 h2 h3
  obtain ⟨L1, L2, L3, h⟩ := R
  subst h1 h2 h3
  exact h E K Y

theorem cover1 (x0 : Vec F S128x768 .f32) (y : S128x768.Idx) : ∃ pc ∈ P1 x0, y ∈ pc.1.set := by
  have h : (y 1).val < 768 := (y 1).isLt
  refine ⟨_, List.mem_map.2 ⟨⟨(y 1).val / 128, by omega⟩, by simp, rfl⟩, (Rect.mem_set_unit (inb := inb1 ⟨(y 1).val / 128, by omega⟩)).2 fun c => ?_⟩
  match c with
  | ⟨0, _⟩ => exact ⟨Nat.zero_le _, by show (y 0).val < 0 + 128; have : (y 0).val < 128 := (y 0).isLt; omega⟩
  | ⟨1, _⟩ => exact ⟨by show 128 * ((y 1).val / 128) ≤ (y 1).val; omega, by show (y 1).val < 128 * ((y 1).val / 128) + 128; omega⟩

theorem cover2 (x0 : Vec F S128x768 .f32) (y : S768x128.Idx) : ∃ pc ∈ P2 x0, y ∈ pc.1.set := by
  have h : (y 0).val < 768 := (y 0).isLt
  refine ⟨_, List.mem_map.2 ⟨⟨(y 0).val / 128, by omega⟩, by simp, rfl⟩, (Rect.mem_set_unit (inb := inb2 ⟨(y 0).val / 128, by omega⟩)).2 fun c => ?_⟩
  match c with
  | ⟨1, _⟩ => exact ⟨Nat.zero_le _, by show (y 1).val < 0 + 128; have : (y 1).val < 128 := (y 1).isLt; omega⟩
  | ⟨0, _⟩ => exact ⟨by show 128 * ((y 0).val / 128) ≤ (y 0).val; omega, by show (y 0).val < 128 * ((y 0).val / 128) + 128; omega⟩

/-- The scale array after the row's store: the stored row at its place, what was there elsewhere. -/
theorem read_P3 (arg4 : Memref sig .tc .vmem S32x6 .f32) (harg4 : arg4.IsWhole) (i : grid0.Coords) (x0 : Vec F S128x768 .f32) (Y : Vec F S32x6 .f32)
    (s : Fin 32) (g : Fin 6) :
    arg4.view.read (Elt F) (arg4.view.writes (Elt F) (harg4.unread Y) (P3 i x0)) (ix2 s g)
      = if s.val = (i 0).val then rowT (tile x0) (ix2 0 g) else Y (ix2 s g) := by
  have hm : (ix2 s g : S32x6.Idx) ∈ (Rect.unit (s := S32x6) (k0_off1 i) S1x6.size (k0_off1_inb i)).set ↔ s.val = (i 0).val := by
    rw [Rect.mem_set_unit, k0_off1_eq i]
    refine ⟨fun h => ?_, fun h c => ?_⟩
    · have h1 : (i 0).val ≤ s.val ∧ s.val < (i 0).val + 1 := h 0
      omega
    · match c with
      | ⟨0, _⟩ => exact ⟨by show (i 0).val ≤ s.val; omega, by show s.val < (i 0).val + 1; omega⟩
      | ⟨1, _⟩ => exact ⟨Nat.zero_le _, by show g.val < 0 + 6; omega⟩
  by_cases hs : s.val = (i 0).val
  · rw [if_pos hs]
    have e : (ix2 s g : S32x6.Idx) = (Rect.unit (s := S32x6) (k0_off1 i) S1x6.size (k0_off1_inb i)).emb (ix2 (0 : Fin 1) g) := by
      funext a; apply Fin.ext
      match a with
      | ⟨0, _⟩ => show s.val = (k0_off1 i) 0 + 1 * 0; rw [k0_off1_eq i]; exact hs
      | ⟨1, _⟩ => show g.val = (k0_off1 i) 1 + 1 * g.val; rw [k0_off1_eq i]; show g.val = 0 + 1 * g.val; omega
    rw [e]
    exact View.read_writes_cons_emb ..
  · rw [if_neg hs]
    refine (View.read_writes_apply_of_forall_not_mem _ _ _ _ fun pc hpc => ?_).trans (congrFun (harg4.read_unread Y) _)
    rw [P3, List.mem_singleton] at hpc
    subst hpc
    exact fun h => hs (hm.1 h)

end Cert.WquantIdeal.Block

end
-- ==== Proof.WquantFrame.lean ====
/- The weight-quantising kernel's frame. The scale array is one block that stays in its buffer over the whole grid, a row stored at
   each point: after point `t` its rows up to `t` hold the tiles' scales, and nothing is said of the rows below them. -/
module
public import proofs.«01_k».proof.Proof.WquantOps
public import Idealize.ShloMosaic.Lib.Pipeline.DatRel
public import Idealize.ShloMosaic.Lib.Pipeline.ArrRel
@[expose] public section
set_option maxRecDepth 16384

noncomputable section

namespace Cert.WquantIdeal.Block

open Cert.WquantIdeal Cert.WquantIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligationRel)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The input block at a point. -/
abbrev blk (c : Dev nD) (t : Fin cfg0.N) : Vec F S128x768 .f32 := iblk m c 0 t

/-- The exact data of the windows but the scales'. -/
def dat (c : Dev nD) : Dat τ (Elt F) Unit ℕ (UR sig nD τ) ℕ cfg0 c where
  A w := V m c (Pipeline.arrRef spec0 w)
  after w t := match w with
    | ⟨0, _⟩ => iblk m c 0 t
    | ⟨1, _⟩ => View.canon (P1 (blk m c t))
    | ⟨2, _⟩ => View.canon (P2 (blk m c t))
    | ⟨3, _⟩ => fun _ => Classical.arbitrary _
  Φ _ := Pipeline.ΦA spec0 c
  q _ := fullShare
  owed _ := 0

/-- The scales' window alone is held to a predicate. -/
def mark (w : Fin cfg0.W) : Bool := match w with
  | ⟨3, _⟩ => true
  | ⟨_, _⟩ => false

/-- After point `t` the rows up to `t` are the tiles' scales. -/
def Rows (c : Dev nD) (t : Fin cfg0.N) (X : Vec F S32x6 .f32) : Prop :=
  ∀ (s : Fin 32) (g : Fin 6), s.val ≤ t.val → X (ix2 s g) = rowT (tile (blk m c s)) (ix2 0 g)

def Rl (c : Dev nD) (w : Fin cfg0.W) (t : Fin cfg0.N) : ((cfg0.win w).block.Idx → Elt F (cfg0.win w).elt) → Prop := match w with
  | ⟨3, _⟩ => Rows m c t
  | ⟨_, _⟩ => fun _ => True

theorem A_eq (c : Dev nD) (w : Fin cfg0.W) : (dat m c).A w = V m c (Pipeline.arrRef spec0 w) := by
  dsimp only [dat]

theorem after0 (c : Dev nD) (t : Fin cfg0.N) : (dat m c).after 0 t = iblk m c 0 t := by dsimp only [dat]
theorem after1 (c : Dev nD) (t : Fin cfg0.N) : (dat m c).after 1 t = View.canon (P1 (blk m c t)) := by dsimp only [dat]
theorem after2 (c : Dev nD) (t : Fin cfg0.N) : (dat m c).after 2 t = View.canon (P2 (blk m c t)) := by dsimp only [dat]

theorem before0 (c : Dev nD) (t : Fin cfg0.N) (d) : (dat m c).before 0 t d = iblk m c 0 t :=
  before0_0_of m (dat m c) (A_eq m c 0) (after0 m c) t d

abbrev rdat (c : Dev nD) : RDat τ (Elt F) Unit ℕ (UR sig nD τ) ℕ cfg0 c := (dat m c).toRRel mark (Rl m c)

/-- What the body may find of the scales before point `t`: the rows before `t`. -/
theorem found (c : Dev nD) (t : Fin cfg0.N) (Y : Vec F S32x6 .f32) (h : (rdat m c).Finds 3 t Y) (s : Fin 32) (g : Fin 6) (hs : s.val < t.val) :
    Y (ix2 s g) = rowT (tile (blk m c s)) (ix2 0 g) := by
  have hN : t.val < 32 := t.isLt
  rw [(rdat m c).finds_of_pos ((cfg0.win 3).fetch_out rfl t) (by omega)] at h
  rcases h with h | h
  · have := (flush0_3 _).1 h
    simp only at this
    omega
  · exact (dat m c).toRRel_leaves (w := 3) rfl h s g (by simp only; omega)

theorem coords0 : ∀ t : Fin cfg0.N, (grid0.coords t 0).val = t.val := by decide +kernel

abbrev ms0 (t : Fin cfg0.N) : Memref sig .tc .vmem S128x768 .f32 := win0_0.stage (cfg0.slots t 0)
abbrev ms1 (t : Fin cfg0.N) : Memref sig .tc .vmem S128x768 .fp8e4m3 := win0_1.stage (cfg0.slots t 1)
abbrev ms2 (t : Fin cfg0.N) : Memref sig .tc .vmem S768x128 .fp8e4m3 := win0_2.stage (cfg0.slots t 2)
abbrev ms3 (t : Fin cfg0.N) : Memref sig .tc .vmem S32x6 .f32 := win0_3.stage (cfg0.slots t 3)
abbrev hs3 (t : Fin cfg0.N) : (ms3 t).IsWhole := hstage0_3 ((cfg0.slots t 3).cast nbuf0_3)

/-- The body at any point, the windows one by one. -/
theorem sound_body (c : Dev nD) (t : Fin cfg0.N) :
    (iprop((dat m c).Φ t.castSucc ∗ (dat m c).owesAt () t.castSucc
      ∗ (∃ d, owns (c : Thread nD τ) (ms0 t) fullShare ((dat m c).before 0 t d))
      ∗ (∃ d, owns (c : Thread nD τ) (ms1 t) fullShare ((dat m c).before 1 t d))
      ∗ (∃ d, owns (c : Thread nD τ) (ms2 t) fullShare ((dat m c).before 2 t d))
      ∗ (∃ Y, ⌜(rdat m c).Finds 3 t Y⌝ ∗ owns (c : Thread nD τ) (ms3 t) fullShare Y)) : sProp 𝕄)
    ⊢ wp frame (wpE (defs₀ (F := F)) Variants.none c none) Set.univ (bodyAt0 t) (fun _ =>
      iprop((dat m c).Φ t.succ ∗ (dat m c).owesAt () t.succ
      ∗ owns (c : Thread nD τ) (ms0 t) fullShare ((dat m c).after 0 t)
      ∗ owns (c : Thread nD τ) (ms1 t) fullShare ((dat m c).after 1 t)
      ∗ owns (c : Thread nD τ) (ms2 t) fullShare ((dat m c).after 2 t)
      ∗ (∃ X, ⌜Rows m c t X⌝ ∗ owns (c : Thread nD τ) (ms3 t) fullShare X))) := by
  unfold bodyAt0
  simp only [before0]
  rw [show (dat m c).Φ t.succ = (dat m c).Φ t.castSucc from rfl,
    show (dat m c).owesAt () t.succ = (dat m c).owesAt () t.castSucc from rfl, after0, after1, after2]
  iintro ⟨HΦ, Ho, ⟨%d0, H0⟩, ⟨%d1, H1⟩, ⟨%d2, H2⟩, ⟨%Y, %hY, H3⟩⟩
  iapply (runs c (grid0.coords t) _ _ _ _ _ _ _ (hs3 t) (blk m c t) Set.univ _ Y)
  isplitl [H0]; · iexact H0
  isplitl [H1]; · iexists _; iexact H1
  isplitl [H2]; · iexists _; iexact H2
  isplitl [H3]; · iexact H3
  iintro ⟨H0, ⟨%e1, H1⟩, ⟨%e2, H2⟩, H3⟩
  isplitl [HΦ]; · iexact HΦ
  isplitl [Ho]; · iexact Ho
  isplitl [H0]; · iexact H0
  isplitl [H1]
  · unfold owns; iexists _; isplitr
    swap; · iexact H1
    ipureintro; exact View.read_writes_eq_canon _ _ _ (cover1 _)
  isplitl [H2]
  · unfold owns; iexists _; isplitr
    swap; · iexact H2
    ipureintro; exact View.read_writes_eq_canon _ _ _ (cover2 _)
  iexists _
  isplitr
  swap
  · unfold owns; iexists _; isplitr
    swap; · iexact H3
    ipureintro; rfl
  ipureintro
  intro s g hs
  refine (read_P3 (ms3 t) (hs3 t) (grid0.coords t) (blk m c t) Y s g).trans ?_
  rw [coords0]
  split
  · next h => rw [show (t : Fin cfg0.N) = s from Fin.ext h.symm]
  · next h => exact found m c t Y hY s g (by omega)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligationRel (dat (F := F) m c) (defs₀ (F := F)) Variants.none () Set.univ mark (Rl m c) := fun t => by
  rw [bigSep_W0, bigSep_W0, defs₀_row]
  exact Idealize.ShloMosaic.triple_restated (sound_body m c t) rfl .rfl fun _ => .rfl

set_option backward.isDefEq.respectTransparency.types false in
/-- The launch, and every semaphore counter of the machine at zero at every final state. -/
theorem run_main_quiescent : θ_run defs (onTc (τ := τ) (main (F := F))) (s₀ m ρ)
    (fun r => RDat.FramePost cfg0 (rdat m) (V m) r ∧ r.2.sem = fun _ => 0) :=
  RDat.θ_run_frame (Q' := _) cfgs (0 : Fin 1) launch0 defs₀ Variants.none (rdat m) m ρ main
    (hbody := fun c => (body_obligation m c).toRRel) (hshare := fun c => (dat m c).share_full fun _ => rfl)
    (howed := fun _ _ => rfl) (V := V m) (hmain := hmain m Variants.none) (hA := A_eq m) (hΦ := fun _ _ => rfl)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  (θ_run defs _ _).mono (fun _ h => ⟨fun c => (h.1.arr_in c 0 rfl).trans ((A_eq m c 0).trans (V_main_arg0 m c)), h.2⟩) (run_main_quiescent m ρ)

end Cert.WquantIdeal.Block

end
-- ==== Proof.WquantBits.lean ====
/- The version's own weight-quantising program is the idealized one's text at the machine's floats, so its frame is the same. -/
module
public import proofs.«01_k».proof.Defs
public import proofs.«01_k».proof.Proof.Gen.Wquant
public import proofs.«01_k».proof.Proof.WquantFrame
@[expose] public section
set_option maxRecDepth 100000

noncomputable section

namespace Cert.WquantIdeal.Block

open Idealize.ShloMosaic Idealize.ShloMosaic.TcCoe Idealize.SL.Sem

set_option maxHeartbeats 1000000 in
theorem body_eq : Cert.Wquant.cc0_wquant (F := Bits) = Cert.WquantIdeal.cc0_wquant (F := Bits) := by with_unfolding_all rfl

theorem defs₀_eq : Cert.Wquant.defs₀ (F := Bits) = Cert.WquantIdeal.defs₀ (F := Bits) := by
  unfold Cert.Wquant.defs₀ Cert.WquantIdeal.defs₀
  refine congrArg Defs.onTc (funext fun l => funext fun a => ?_)
  match l, a with
  | 0, (t, s) =>
    simp only [body_eq]
    with_unfolding_all rfl
  | ⟨_ + 1, h⟩, _ => exact absurd h (Nat.not_lt.2 (Nat.le_add_left _ _))

theorem defs_eq : Cert.Wquant.defs (F := Bits) = Cert.WquantIdeal.defs (F := Bits) := by
  unfold Cert.Wquant.defs Cert.WquantIdeal.defs
  rw [defs₀_eq]
  rfl

theorem main_eq : Cert.Wquant.main (F := Bits) = Cert.WquantIdeal.main (F := Bits) := by with_unfolding_all rfl

theorem frame_bits : Cert.quiescent_Wquant := fun m g _ => by
  rw [defs_eq, main_eq]
  exact frame (F := Bits) m g

end Cert.WquantIdeal.Block

end
-- ==== Proof.RefOps.lean ====
/- What the array operations of the references leave at an index, over any number of rows and groups: rows of `128 * K`
   elements split into `K` groups of 128, a group's largest magnitude, its exponent, its codes, and a vector of scales
   repeated over a group. -/
module
public import proofs.«01_k».proof.Proof.Tile
import Idealize.ShloMosaic.Lib.Pointwise
@[expose] public section
set_option maxRecDepth 16384

noncomputable section

namespace Cert.RefOps

open Idealize.ShloMosaic
open scoped BigOperators

variable {R K W : ℕ} {α : Type}

/-- Rows split into groups of 128. -/
theorem split_apply (hW : W = 128 * K) (X : (⟨2, ![R, W]⟩ : Shape).Idx → α) (h) (r : Fin R) (g : Fin K) (k : Fin 128) :
    shapeCast ⟨3, ![R, K, 128]⟩ X h (ix3 r g k) = X (ix2 r ⟨128 * g.val + k.val, by omega⟩) :=
  shapeCast_apply X h _ _ (by
    rw [Shape.rowMajor_val_three, Shape.rowMajor_val_two]
    show r.val * W + (128 * g.val + k.val) = (r.val * K + g.val) * 128 + k.val
    subst hW; ring)

/-- Groups of 128 laid out as rows again. -/
theorem join_apply (hW : W = 128 * K) (X : (⟨3, ![R, K, 128]⟩ : Shape).Idx → α) (h) (r : Fin R) (w : Fin W) :
    shapeCast ⟨2, ![R, W]⟩ X h (ix2 r w) = X (ix3 r ⟨w.val / 128, by omega⟩ ⟨w.val % 128, by omega⟩) :=
  shapeCast_apply X h _ _ (by
    rw [Shape.rowMajor_val_three, Shape.rowMajor_val_two]
    show (r.val * K + w.val / 128) * 128 + w.val % 128 = r.val * W + w.val
    have := Nat.div_add_mod w.val 128
    subst hW
    have e : r.val * (128 * K) = r.val * K * 128 := by ring
    rw [e]; omega)

/-- Columns split into groups of 128. -/
theorem splitRows_apply (hW : W = 128 * K) (X : (⟨2, ![W, R]⟩ : Shape).Idx → α) (h) (g : Fin K) (k : Fin 128) (r : Fin R) :
    shapeCast ⟨3, ![K, 128, R]⟩ X h (ix3 g k r) = X (ix2 ⟨128 * g.val + k.val, by omega⟩ r) :=
  shapeCast_apply X h _ _ (by
    rw [Shape.rowMajor_val_three, Shape.rowMajor_val_two]
    show (128 * g.val + k.val) * R + r.val = (g.val * 128 + k.val) * R + r.val
    ring)

/-- The leading two axes of groups of 128 merged. -/
theorem joinRows_apply (hW : W = 128 * K) (X : (⟨3, ![K, 128, R]⟩ : Shape).Idx → α) (h) (w : Fin W) (r : Fin R) :
    shapeCast ⟨2, ![W, R]⟩ X h (ix2 w r) = X (ix3 ⟨w.val / 128, by omega⟩ ⟨w.val % 128, by omega⟩ r) :=
  shapeCast_apply X h _ _ (by
    rw [Shape.rowMajor_val_three, Shape.rowMajor_val_two]
    show (w.val / 128 * 128 + w.val % 128) * R + r.val = w.val * R + r.val
    have := Nat.div_add_mod w.val 128
    rw [show w.val / 128 * 128 + w.val % 128 = w.val by omega])

theorem addUnit_apply (X : (⟨2, ![R, K]⟩ : Shape).Idx → α) (h) (r : Fin R) (g : Fin K) (u : Fin 1) :
    shapeCast ⟨3, ![R, K, 1]⟩ X h (ix3 r g u) = X (ix2 r g) :=
  shapeCast_apply X h _ _ (by
    rw [Shape.rowMajor_val_three, Shape.rowMajor_val_two]
    show r.val * K + g.val = (r.val * K + g.val) * 1 + u.val
    omega)

theorem dropUnit_apply (X : (⟨3, ![R, K, 1]⟩ : Shape).Idx → α) (h) (r : Fin R) (g : Fin K) :
    shapeCast ⟨2, ![R, K]⟩ X h (ix2 r g) = X (ix3 r g 0) :=
  shapeCast_apply X h _ _ (by
    rw [Shape.rowMajor_val_three, Shape.rowMajor_val_two]
    show (r.val * K + g.val) * 1 + 0 = r.val * K + g.val
    omega)

theorem midUnit_apply (X : (⟨2, ![R, K]⟩ : Shape).Idx → α) (h) (r : Fin R) (u : Fin 1) (g : Fin K) :
    shapeCast ⟨3, ![R, 1, K]⟩ X h (ix3 r u g) = X (ix2 r g) :=
  shapeCast_apply X h _ _ (by
    rw [Shape.rowMajor_val_three, Shape.rowMajor_val_two]
    show r.val * K + g.val = (r.val * 1 + u.val) * K + g.val
    rw [show r.val * 1 + u.val = r.val by omega])

/-- A trailing unit axis repeated. -/
theorem repLast_apply {n : ℕ} (X : (⟨3, ![R, K, 1]⟩ : Shape).Idx → α) (h) (r : Fin R) (g : Fin K) (k : Fin n) :
    broadcastTo ⟨3, ![R, K, n]⟩ X h (ix3 r g k) = X (ix3 r g 0) :=
  broadcastTo_apply X h _ _ fun a => by
    match a with
    | ⟨0, _⟩ => show r.val = if R = 1 then 0 else r.val; split <;> omega
    | ⟨1, _⟩ => show g.val = if K = 1 then 0 else g.val; split <;> omega
    | ⟨2, _⟩ => rfl

/-- A middle unit axis repeated. -/
theorem repMid_apply {n : ℕ} (X : (⟨3, ![R, 1, K]⟩ : Shape).Idx → α) (h) (r : Fin R) (k : Fin n) (g : Fin K) :
    broadcastTo ⟨3, ![R, n, K]⟩ X h (ix3 r k g) = X (ix3 r 0 g) :=
  broadcastTo_apply X h _ _ fun a => by
    match a with
    | ⟨0, _⟩ => show r.val = if R = 1 then 0 else r.val; split <;> omega
    | ⟨1, _⟩ => rfl
    | ⟨2, _⟩ => show g.val = if K = 1 then 0 else g.val; split <;> omega

theorem swap_apply (X : (⟨2, ![R, K]⟩ : Shape).Idx → α) (h) (g : Fin K) (r : Fin R) :
    transpose ⟨2, ![K, R]⟩ [1, 0] X h (ix2 g r) = X (ix2 r g) :=
  transpose_apply _ X h _ _ fun c => match c with | ⟨0, _⟩ => rfl | ⟨1, _⟩ => rfl

theorem swap3_apply {n : ℕ} (X : (⟨3, ![R, K, n]⟩ : Shape).Idx → α) (h) (g : Fin K) (r : Fin R) (k : Fin n) :
    transpose ⟨3, ![K, R, n]⟩ [1, 0, 2] X h (ix3 g r k) = X (ix3 r g k) :=
  transpose_apply _ X h _ _ fun c => match c with | ⟨0, _⟩ => rfl | ⟨1, _⟩ => rfl | ⟨2, _⟩ => rfl

/-- The largest magnitude of each group. -/
theorem amax_apply (X : FVec Ideal ⟨3, ![R, K, 128]⟩ .f32) (h h' h'') (r : Fin R) (g : Fin K) :
    multiReduction .maximumf [2] ⟨2, ![R, K]⟩ (absf X) 0xFF800000#32 h h' h'' (ix2 r g) = Tile.amax fun k => X (ix3 r g k) := by
  unfold Tile.amax
  pointwise
  rw [Tile.ofBits_bot_f32]
  rfl

/-- The sum over the leading axis. -/
theorem sum_apply (X : FVec Ideal ⟨3, ![K, R, W]⟩ .f32) (h h' h'') (r : Fin R) (w : Fin W) :
    multiReduction .add [0] ⟨2, ![R, W]⟩ X 0x00000000#32 h h' h'' (ix2 r w) = ∑ g : Fin K, X (ix3 g r w) := by
  pointwise

/-! ### Batched products -/

def bdot (K R P N : ℕ) (wf : DotDims.WF ⟨3, ![K, R, P]⟩ ⟨3, ![K, P, N]⟩ ⟨3, ![K, R, N]⟩ [2] [1] [1] [2] [0] [0]) :
    DotDims ⟨3, ![K, R, P]⟩ ⟨3, ![K, P, N]⟩ ⟨3, ![K, R, N]⟩ where
  lhsContracting := [2]
  rhsContracting := [1]
  lhsNonContracting := [1]
  rhsNonContracting := [2]
  lhsBatch := [0]
  rhsBatch := [0]
  wf := wf

theorem bdot_apply {P N : ℕ} (wf) (A : FVec Ideal ⟨3, ![K, R, P]⟩ .fp8e4m3) (B : FVec Ideal ⟨3, ![K, P, N]⟩ .fp8e4m3) (g : Fin K) (r : Fin R) (n : Fin N) :
    matmul (bdot K R P N wf) none A B (constant ⟨3, ![K, R, N]⟩ .f32 0x00000000#32) (ix3 g r n) = ∑ k : Fin P, A (ix3 g r k) * B (ix3 g k n) := by
  refine (Ideal.matmul_apply₁_of (bdot K R P N wf) rfl rfl A B (constant (F := Ideal) ⟨3, ![K, R, N]⟩ .f32 0x00000000#32) (ix3 g r n)
    (fun k => ix3 g r k) (fun k => ix3 g k n) (fun k => ?_) (fun k => ?_)).trans ?_
  · funext a; apply Fin.ext
    match a with
    | ⟨0, _⟩ => rfl
    | ⟨1, _⟩ => rfl
    | ⟨2, _⟩ => rfl
  · funext a; apply Fin.ext
    match a with
    | ⟨0, _⟩ => rfl
    | ⟨1, _⟩ => rfl
    | ⟨2, _⟩ => rfl
  · refine (congrArg (· + _) (?_ : constant (F := Ideal) ⟨3, ![K, R, N]⟩ .f32 0x00000000#32 (ix3 g r n) = (0 : EReal))).trans (zero_add _)
    show Ideal.ofBits .f32 0x00000000#32 = 0
    simp [Ideal.ofBits, Ideal.ieee]

def bdotT (K R P N : ℕ) (wf : DotDims.WF ⟨3, ![K, R, P]⟩ ⟨3, ![K, N, P]⟩ ⟨3, ![K, R, N]⟩ [2] [2] [1] [1] [0] [0]) :
    DotDims ⟨3, ![K, R, P]⟩ ⟨3, ![K, N, P]⟩ ⟨3, ![K, R, N]⟩ where
  lhsContracting := [2]
  rhsContracting := [2]
  lhsNonContracting := [1]
  rhsNonContracting := [1]
  lhsBatch := [0]
  rhsBatch := [0]
  wf := wf

theorem bdotT_apply {P N : ℕ} (wf) (A : FVec Ideal ⟨3, ![K, R, P]⟩ .fp8e4m3) (B : FVec Ideal ⟨3, ![K, N, P]⟩ .fp8e4m3) (g : Fin K) (r : Fin R) (n : Fin N) :
    matmul (bdotT K R P N wf) none A B (constant ⟨3, ![K, R, N]⟩ .f32 0x00000000#32) (ix3 g r n) = ∑ k : Fin P, A (ix3 g r k) * B (ix3 g n k) := by
  refine (Ideal.matmul_apply₁_of (bdotT K R P N wf) rfl rfl A B (constant (F := Ideal) ⟨3, ![K, R, N]⟩ .f32 0x00000000#32) (ix3 g r n)
    (fun k => ix3 g r k) (fun k => ix3 g n k) (fun k => ?_) (fun k => ?_)).trans ?_
  · funext a; apply Fin.ext
    match a with
    | ⟨0, _⟩ => rfl
    | ⟨1, _⟩ => rfl
    | ⟨2, _⟩ => rfl
  · funext a; apply Fin.ext
    match a with
    | ⟨0, _⟩ => rfl
    | ⟨1, _⟩ => rfl
    | ⟨2, _⟩ => rfl
  · refine (congrArg (· + _) (?_ : constant (F := Ideal) ⟨3, ![K, R, N]⟩ .f32 0x00000000#32 (ix3 g r n) = (0 : EReal))).trans (zero_add _)
    show Ideal.ofBits .f32 0x00000000#32 = 0
    simp [Ideal.ofBits, Ideal.ieee]

/-! ### The quantiser -/

section Quantiser
variable (hW : W = 128 * K) (X : FVec Ideal ⟨2, ![R, W]⟩ .bf16) (h1 : (⟨2, ![R, W]⟩ : Shape).ShapeCasts ⟨3, ![R, K, 128]⟩)
  (h2 : (⟨3, ![R, K, 128]⟩ : Shape).Reduces [2] ⟨2, ![R, K]⟩) (h3 : (⟨2, ![R, K]⟩ : Shape).ShapeCasts ⟨3, ![R, K, 1]⟩)
  (h4 : (⟨3, ![R, K, 1]⟩ : Shape).Broadcasts ⟨3, ![R, K, 128]⟩) (h5 : (⟨3, ![R, K, 1]⟩ : Shape).ShapeCasts ⟨2, ![R, K]⟩)
  (h6 : (⟨3, ![R, K, 128]⟩ : Shape).ShapeCasts ⟨2, ![R, W]⟩)

/-- The rows by groups. -/
def x3 : FVec Ideal ⟨3, ![R, K, 128]⟩ .f32 := extf .f32 (shapeCast ⟨3, ![R, K, 128]⟩ X h1) (by decide)

/-- The exponent of each group's scale. -/
def ex : FVec Ideal ⟨3, ![R, K, 1]⟩ .f32 :=
  have a : FVec Ideal ⟨3, ![R, K, 1]⟩ .f32 := shapeCast ⟨3, ![R, K, 1]⟩ (multiReduction .maximumf [2] ⟨2, ![R, K]⟩ (absf (x3 X h1)) 0xFF800000#32 h2 (.inl rfl) rfl) h3
  select (cmpf .oeq a (broadcast ⟨3, ![R, K, 1]⟩ (Scalar.ofBits .f32 0x00000000#32))) (broadcast ⟨3, ![R, K, 1]⟩ (Scalar.ofBits .f32 0x00000000#32))
    (addf (floor (divf (log (mulf a (broadcast ⟨3, ![R, K, 1]⟩ (Scalar.ofBits .f32 0x3B124925#32)))) (broadcast ⟨3, ![R, K, 1]⟩ (Scalar.log (Scalar.ofBits .f32 0x40000000#32)))))
      (broadcast ⟨3, ![R, K, 1]⟩ (Scalar.ofBits .f32 0x3F800000#32)))

/-- The codes. -/
def cd : FVec Ideal ⟨3, ![R, K, 128]⟩ .fp8e4m3 :=
  truncf .fp8e4m3 (minimumf (broadcast ⟨3, ![R, K, 128]⟩ (Scalar.ofBits .f32 0x43E00000#32)) (maximumf (broadcast ⟨3, ![R, K, 128]⟩ (Scalar.ofBits .f32 0xC3E00000#32))
    (mulf (x3 X h1) (broadcastTo ⟨3, ![R, K, 128]⟩ (exp2 (subf (broadcast ⟨3, ![R, K, 1]⟩ (Scalar.ofBits .f32 0x00000000#32)) (ex X h1 h2 h3))) h4)))) (by decide)

/-- The scales. -/
def sc : FVec Ideal ⟨2, ![R, K]⟩ .f32 := shapeCast ⟨2, ![R, K]⟩ (exp2 (ex X h1 h2 h3)) h5

theorem x3_apply (r : Fin R) (g : Fin K) (k : Fin 128) : x3 X h1 (ix3 r g k) = Tile.grp K hW X r g k := split_apply hW X h1 r g k

theorem ex_apply (r : Fin R) (g : Fin K) : ex X h1 h2 h3 (ix3 r g 0) = Quant.rexp (Tile.amax (Tile.grp K hW X r g)) := by
  refine Eq.trans (b := Quant.rexp (shapeCast ⟨3, ![R, K, 1]⟩ (multiReduction .maximumf [2] ⟨2, ![R, K]⟩ (absf (x3 X h1)) 0xFF800000#32 h2 (.inl rfl) rfl) h3 (ix3 r g 0))) rfl ?_
  refine congrArg Quant.rexp ((addUnit_apply _ h3 r g 0).trans ((amax_apply _ h2 (.inl rfl) rfl r g).trans ?_))
  exact congrArg Tile.amax (funext fun k => x3_apply hW X h1 r g k)

theorem cd_apply (r : Fin R) (g : Fin K) (k : Fin 128) (h : Quant.InRange (Tile.amax (Tile.grp K hW X r g))) :
    cd X h1 h2 h3 h4 (ix3 r g k) = Tile.code (Tile.grp K hW X r g) k := by
  refine Eq.trans (b := Tile.clip (x3 X h1 (ix3 r g k) * broadcastTo ⟨3, ![R, K, 128]⟩ (exp2 (subf (broadcast ⟨3, ![R, K, 1]⟩ (Scalar.ofBits .f32 0x00000000#32)) (ex X h1 h2 h3))) h4 (ix3 r g k))) rfl ?_
  rw [repLast_apply, x3_apply hW]
  refine congrArg (fun s => Tile.clip (Tile.grp K hW X r g k * s)) ?_
  show Ideal.exp2 (Ideal.ofBits .f32 0x00000000#32 - ex X h1 h2 h3 (ix3 r g 0)) = _
  rw [ex_apply hW]
  exact (Quant.inv_eq h).symm

theorem sc_apply (r : Fin R) (g : Fin K) (h : Quant.InRange (Tile.amax (Tile.grp K hW X r g))) :
    sc X h1 h2 h3 h5 (ix2 r g) = Quant.kscale (Tile.gt (Tile.grp K hW X r g)) := by
  refine (dropUnit_apply (exp2 (ex X h1 h2 h3)) h5 r g).trans ?_
  show Ideal.exp2 (ex X h1 h2 h3 (ix3 r g 0)) = _
  rw [ex_apply hW]
  exact (Quant.scale_eq h).symm

theorem cd_rows_apply (r : Fin R) (w : Fin W) (h : ∀ g, Quant.InRange (Tile.amax (Tile.grp K hW X r g))) :
    shapeCast ⟨2, ![R, W]⟩ (cd X h1 h2 h3 h4) h6 (ix2 r w) = Tile.code (Tile.grp K hW X r ⟨w.val / 128, by omega⟩) ⟨w.val % 128, by omega⟩ :=
  (join_apply hW _ h6 r w).trans (cd_apply hW X h1 h2 h3 h4 r _ _ (h _))

end Quantiser

/-! ### The sum over the groups of the scaled partial products -/

/-- The partial products times both scales, added over the groups. -/
def wsum {N : ℕ} (P : FVec Ideal ⟨3, ![K, R, N]⟩ .f32) (sx : FVec Ideal ⟨2, ![R, K]⟩ .f32) (s : FVec Ideal ⟨2, ![K, N]⟩ .f32)
    (h1 : (⟨2, ![R, K]⟩ : Shape).Transposes [1, 0] ⟨2, ![K, R]⟩) (h2 : (⟨2, ![K, R]⟩ : Shape).ShapeCasts ⟨3, ![K, R, 1]⟩)
    (h3 : (⟨3, ![K, R, 1]⟩ : Shape).Broadcasts ⟨3, ![K, R, N]⟩) (h4 : (⟨2, ![K, N]⟩ : Shape).ShapeCasts ⟨3, ![K, 1, N]⟩)
    (h5 : (⟨3, ![K, 1, N]⟩ : Shape).Broadcasts ⟨3, ![K, R, N]⟩) (h6 : (⟨3, ![K, R, N]⟩ : Shape).Reduces [0] ⟨2, ![R, N]⟩) : FVec Ideal ⟨2, ![R, N]⟩ .bf16 :=
  truncf .bf16 (multiReduction .add [0] ⟨2, ![R, N]⟩
    (mulf (mulf P (broadcastTo ⟨3, ![K, R, N]⟩ (shapeCast ⟨3, ![K, R, 1]⟩ (transpose ⟨2, ![K, R]⟩ [1, 0] sx h1) h2) h3))
      (broadcastTo ⟨3, ![K, R, N]⟩ (shapeCast ⟨3, ![K, 1, N]⟩ s h4) h5)) 0x00000000#32 h6 (.inl rfl) rfl) (by decide)

theorem wsum_apply {N : ℕ} (P : FVec Ideal ⟨3, ![K, R, N]⟩ .f32) (sx : FVec Ideal ⟨2, ![R, K]⟩ .f32) (s : FVec Ideal ⟨2, ![K, N]⟩ .f32)
    (h1 h2 h3 h4 h5 h6) (r : Fin R) (n : Fin N) :
    wsum P sx s h1 h2 h3 h4 h5 h6 (ix2 r n) = ∑ g : Fin K, P (ix3 g r n) * (sx (ix2 r g) * s (ix2 g n)) := by
  refine (sum_apply _ h6 (.inl rfl) rfl r n).trans (Finset.sum_congr rfl fun g _ => ?_)
  refine Eq.trans (b := P (ix3 g r n) * broadcastTo ⟨3, ![K, R, N]⟩ (shapeCast ⟨3, ![K, R, 1]⟩ (transpose ⟨2, ![K, R]⟩ [1, 0] sx h1) h2) h3 (ix3 g r n)
    * broadcastTo ⟨3, ![K, R, N]⟩ (shapeCast ⟨3, ![K, 1, N]⟩ s h4) h5 (ix3 g r n)) rfl ?_
  rw [repLast_apply, repMid_apply, addUnit_apply, midUnit_apply, swap_apply, mul_assoc]

/-! ### The condition on the inputs -/

theorem hostMax_apply (X : FVec Ideal ⟨3, ![R, K, 128]⟩ .f32) (h : (⟨3, ![R, K, 128]⟩ : Shape).ReducesTo [2] ⟨2, ![R, K]⟩)
    (hu : 0 < (⟨0, ![]⟩ : Shape).numel) (r : Fin R) (g : Fin K) :
    Host.reduce FloatOps.maximumf (Host.absf X) (constant (F := Ideal) ⟨0, ![]⟩ .f32 0xFF800000#32) h hu (ix2 r g) = Tile.amax fun k => X (ix3 r g k) := by
  unfold Tile.amax
  pointwise
  rw [Tile.ofBits_bot_f32]
  rfl

/-- A magnitude that passes the three comparisons is in the range. -/
theorem inRange_of (a : EReal) (h : IntOp.ori (Ideal.cmp .oeq a (Ideal.ofBits .f32 0x00000000#32))
    (IntOp.andi (Ideal.cmp .oge (a * Ideal.ofBits .f32 0x3B124925#32) (Ideal.ofBits .f32 0x00800000#32))
      (Ideal.cmp .ole a (Ideal.ofBits .f32 0x7F7FC99E#32))) = 1#1) : Quant.InRange a := by
  unfold Ideal.cmp IntOp.ori IntOp.andi at h
  dsimp only at h
  unfold Quant.InRange
  by_cases h1 : a = Ideal.ofBits .f32 0x00000000#32
  · exact Or.inl h1
  · refine Or.inr ?_
    rw [decide_eq_false h1] at h
    by_cases h2 : Ideal.ofBits .f32 0x00800000#32 ≤ a * Ideal.ofBits .f32 0x3B124925#32
    · by_cases h3 : a ≤ Ideal.ofBits .f32 0x7F7FC99E#32
      · exact ⟨h2, h3⟩
      · rw [decide_eq_false h3, decide_eq_true h2] at h
        exact absurd h (by decide)
    · rw [decide_eq_false h2] at h
      by_cases h3 : a ≤ Ideal.ofBits .f32 0x7F7FC99E#32
      · rw [decide_eq_true h3] at h
        exact absurd h (by decide)
      · rw [decide_eq_false h3] at h
        exact absurd h (by decide)

/-- The printed condition on an array of rows, per group. -/
def pre (X : FVec Ideal ⟨2, ![R, W]⟩ .bf16) (h1 : (⟨2, ![R, W]⟩ : Shape).ShapeCasts ⟨3, ![R, K, 128]⟩) (h : (⟨3, ![R, K, 128]⟩ : Shape).ReducesTo [2] ⟨2, ![R, K]⟩)
    (hu : 0 < (⟨0, ![]⟩ : Shape).numel) (hb : (⟨0, ![]⟩ : Shape).BroadcastsInDim ⟨2, ![R, K]⟩ (![] : Fin 0 → Fin (⟨2, ![R, K]⟩ : Shape).rank)) : IVec ⟨2, ![R, K]⟩ 1 :=
  have a : FVec Ideal ⟨2, ![R, K]⟩ .f32 := Host.reduce FloatOps.maximumf (Host.absf (x3 X h1)) (constant (F := Ideal) ⟨0, ![]⟩ .f32 0xFF800000#32) h hu
  ori (cmpf .oeq a (broadcastInDim ⟨2, ![R, K]⟩ ![] hb (constant (F := Ideal) ⟨0, ![]⟩ .f32 0x00000000#32)))
    (andi (cmpf .oge (mulf a (broadcastInDim ⟨2, ![R, K]⟩ ![] hb (constant (F := Ideal) ⟨0, ![]⟩ .f32 0x3B124925#32))) (broadcastInDim ⟨2, ![R, K]⟩ ![] hb (constant (F := Ideal) ⟨0, ![]⟩ .f32 0x00800000#32)))
      (cmpf .ole a (broadcastInDim ⟨2, ![R, K]⟩ ![] hb (constant (F := Ideal) ⟨0, ![]⟩ .f32 0x7F7FC99E#32))))

theorem inRange_of_pre (hW : W = 128 * K) (X : FVec Ideal ⟨2, ![R, W]⟩ .bf16) (h1 h hu hb) (e : pre (K := K) X h1 h hu hb = fun _ => 1#1) (r : Fin R) (g : Fin K) :
    Quant.InRange (Tile.amax (Tile.grp K hW X r g)) := by
  have e' : Host.reduce FloatOps.maximumf (Host.absf (x3 (K := K) X h1)) (constant (F := Ideal) ⟨0, ![]⟩ .f32 0xFF800000#32) h hu (ix2 r g) = Tile.amax (Tile.grp K hW X r g) :=
    (hostMax_apply (x3 X h1) h hu r g).trans (congrArg Tile.amax (funext fun k => x3_apply hW X h1 r g k))
  rw [← e']
  exact inRange_of _ (congrFun e (ix2 r g))

end Cert.RefOps
-- ==== Proof.Tiles.lean ====
/- An array quantised by 128 by 128 tiles: a tile's largest magnitude, its codes and its scale, and what the reference's array
   operations over the tiles leave at an index, for any number of tiles. -/
module
public import proofs.«01_k».proof.Proof.RefOps
import Idealize.ShloMosaic.Lib.Pointwise
@[expose] public section
set_option maxRecDepth 16384

noncomputable section

namespace Cert.Tiles

open Idealize.ShloMosaic

variable {A K R W : ℕ} {α : Type}

/-- The largest magnitude of a tile: of each column, then of the columns. -/
def amax (x : Fin 128 → Fin 128 → EReal) : EReal := Finset.univ.fold max ⊥ fun k => Finset.univ.fold max ⊥ fun q => max (x q k) (-(x q k))

/-- `amax * (1/448)` of a tile. -/
def gt (x : Fin 128 → Fin 128 → EReal) : EReal := amax x * Ideal.ofBits .f32 0x3B124925#32

/-- A code: the element times the tile's inverse scale, clipped. -/
def code (x : Fin 128 → Fin 128 → EReal) (q k : Fin 128) : EReal := Tile.clip (x q k * Quant.kinv (gt x))

/-- Tile `a`, `g` of an array. -/
def tl (A K : ℕ) (hR : R = 128 * A) (hW : W = 128 * K) (X : FVec Ideal ⟨2, ![R, W]⟩ .f32) (a : Fin A) (g : Fin K) : Fin 128 → Fin 128 → EReal :=
  fun q k => X (ix2 ⟨128 * a.val + q.val, by omega⟩ ⟨128 * g.val + k.val, by omega⟩)

/-! ### The array operations over the tiles -/

theorem split_apply (hR : R = 128 * A) (hW : W = 128 * K) (X : (⟨2, ![R, W]⟩ : Shape).Idx → α) (h) (a : Fin A) (q : Fin 128) (g : Fin K) (k : Fin 128) :
    shapeCast ⟨4, ![A, 128, K, 128]⟩ X h (ix4 a q g k) = X (ix2 ⟨128 * a.val + q.val, by omega⟩ ⟨128 * g.val + k.val, by omega⟩) :=
  shapeCast_apply X h _ _ (by
    rw [Shape.rowMajor_val_four, Shape.rowMajor_val_two]
    show (128 * a.val + q.val) * W + (128 * g.val + k.val) = ((a.val * 128 + q.val) * K + g.val) * 128 + k.val
    subst hW; ring)

theorem join_apply (hR : R = 128 * A) (hW : W = 128 * K) (X : (⟨4, ![A, 128, K, 128]⟩ : Shape).Idx → α) (h) (r : Fin R) (w : Fin W) :
    shapeCast ⟨2, ![R, W]⟩ X h (ix2 r w)
      = X (ix4 ⟨r.val / 128, by omega⟩ ⟨r.val % 128, by omega⟩ ⟨w.val / 128, by omega⟩ ⟨w.val % 128, by omega⟩) :=
  shapeCast_apply X h _ _ (by
    rw [Shape.rowMajor_val_four, Shape.rowMajor_val_two]
    show ((r.val / 128 * 128 + r.val % 128) * K + w.val / 128) * 128 + w.val % 128 = r.val * W + w.val
    have h1 := Nat.div_add_mod w.val 128
    have h2 := Nat.div_add_mod r.val 128
    rw [show r.val / 128 * 128 + r.val % 128 = r.val by omega]
    subst hW
    have e : r.val * (128 * K) = r.val * K * 128 := by ring
    rw [e]; omega)

theorem addUnits_apply (X : (⟨2, ![A, K]⟩ : Shape).Idx → α) (h) (a : Fin A) (g : Fin K) :
    shapeCast ⟨4, ![A, 1, K, 1]⟩ X h (ix4 a 0 g 0) = X (ix2 a g) :=
  shapeCast_apply X h _ _ (by
    rw [Shape.rowMajor_val_four, Shape.rowMajor_val_two]
    show a.val * K + g.val = ((a.val * 1 + 0) * K + g.val) * 1 + 0
    simp)

theorem dropUnits_apply (X : (⟨4, ![A, 1, K, 1]⟩ : Shape).Idx → α) (h) (a : Fin A) (g : Fin K) :
    shapeCast ⟨2, ![A, K]⟩ X h (ix2 a g) = X (ix4 a 0 g 0) :=
  shapeCast_apply X h _ _ (by
    rw [Shape.rowMajor_val_four, Shape.rowMajor_val_two]
    show ((a.val * 1 + 0) * K + g.val) * 1 + 0 = a.val * K + g.val
    simp)

theorem rep_apply (X : (⟨4, ![A, 1, K, 1]⟩ : Shape).Idx → α) (h) (a : Fin A) (q : Fin 128) (g : Fin K) (k : Fin 128) :
    broadcastTo ⟨4, ![A, 128, K, 128]⟩ X h (ix4 a q g k) = X (ix4 a 0 g 0) :=
  broadcastTo_apply X h _ _ fun b => by
    match b with
    | ⟨0, _⟩ => show a.val = if A = 1 then 0 else a.val; split <;> omega
    | ⟨1, _⟩ => rfl
    | ⟨2, _⟩ => show g.val = if K = 1 then 0 else g.val; split <;> omega
    | ⟨3, _⟩ => rfl

/-- A maximum over the elements of one tile, taken over the tile's columns and then over its rows. -/
theorem fold_tile (f : (⟨4, ![A, 128, K, 128]⟩ : Shape).Idx → EReal) (P : (⟨4, ![A, 128, K, 128]⟩ : Shape).Idx → Prop) [DecidablePred P] (a : Fin A) (g : Fin K)
    (hP : ∀ i, P i ↔ (i 0).val = a.val ∧ (i 2).val = g.val) :
    (Finset.univ.filter P).fold max ⊥ f = Finset.univ.fold max ⊥ fun k => Finset.univ.fold max ⊥ fun q => f (ix4 a q g k) := by
  refine le_antisymm ((Finset.fold_max_le _).2 ⟨bot_le, fun i hi => ?_⟩)
    ((Finset.fold_max_le _).2 ⟨bot_le, fun k _ => (Finset.fold_max_le _).2 ⟨bot_le, fun q _ => ?_⟩⟩)
  · obtain ⟨a', q, g', k, rfl⟩ : ∃ (a' : Fin A) (q : Fin 128) (g' : Fin K) (k : Fin 128), i = ix4 a' q g' k := ⟨i 0, i 1, i 2, i 3, eq_ix4 i⟩
    obtain ⟨e1, e2⟩ := (hP _).1 (Finset.mem_filter.1 hi).2
    have e1' : a' = a := Fin.ext e1
    have e2' : g' = g := Fin.ext e2
    subst e1' e2'
    exact (Finset.le_fold_max _).2 (.inr ⟨k, Finset.mem_univ _, (Finset.le_fold_max _).2 (.inr ⟨q, Finset.mem_univ _, le_rfl⟩)⟩)
  · exact (Finset.le_fold_max _).2 (.inr ⟨_, Finset.mem_filter.2 ⟨Finset.mem_univ _, (hP _).2 ⟨rfl, rfl⟩⟩, le_rfl⟩)

theorem drop_iff (i : (⟨4, ![A, 128, K, 128]⟩ : Shape).Idx) (h : (⟨4, ![A, 128, K, 128]⟩ : Shape).ReducesTo [1, 3] ⟨2, ![A, K]⟩) (a : Fin A) (g : Fin K) :
    h.drop i = ix2 a g ↔ (i 0).val = a.val ∧ (i 2).val = g.val := by
  have h0 : (h.drop i 0 : ℕ) = i 0 := Shape.ReducesTo.drop_apply_val h i 0
  have h1 : (h.drop i 1 : ℕ) = i 2 := Shape.ReducesTo.drop_apply_val h i 1
  rw [← h0, ← h1]
  refine ⟨fun e => by rw [e]; exact ⟨rfl, rfl⟩, fun e => ?_⟩
  funext b; apply Fin.ext
  match b with
  | ⟨0, _⟩ => exact e.1
  | ⟨1, _⟩ => exact e.2

theorem amax_apply (X : FVec Ideal ⟨4, ![A, 128, K, 128]⟩ .f32) (h : (⟨4, ![A, 128, K, 128]⟩ : Shape).Reduces [1, 3] ⟨2, ![A, K]⟩) (h' h'') (a : Fin A) (g : Fin K) :
    multiReduction .maximumf [1, 3] ⟨2, ![A, K]⟩ (absf X) 0xFF800000#32 h h' h'' (ix2 a g) = amax fun q k => X (ix4 a q g k) := by
  unfold amax
  pointwise
  rw [Tile.ofBits_bot_f32]
  exact fold_tile _ _ a g fun i => drop_iff i h.reducesTo a g

theorem hostMax_apply (X : FVec Ideal ⟨4, ![A, 128, K, 128]⟩ .f32) (h : (⟨4, ![A, 128, K, 128]⟩ : Shape).ReducesTo [1, 3] ⟨2, ![A, K]⟩)
    (hu : 0 < (⟨0, ![]⟩ : Shape).numel) (a : Fin A) (g : Fin K) :
    Host.reduce FloatOps.maximumf (Host.absf X) (constant (F := Ideal) ⟨0, ![]⟩ .f32 0xFF800000#32) h hu (ix2 a g) = amax fun q k => X (ix4 a q g k) := by
  unfold amax
  pointwise
  rw [Tile.ofBits_bot_f32]
  exact fold_tile _ _ a g fun i => drop_iff i h a g

/-! ### The quantiser -/

section Quantiser
variable (hR : R = 128 * A) (hW : W = 128 * K) (X : FVec Ideal ⟨2, ![R, W]⟩ .f32) (h1 : (⟨2, ![R, W]⟩ : Shape).ShapeCasts ⟨4, ![A, 128, K, 128]⟩)
  (h2 : (⟨4, ![A, 128, K, 128]⟩ : Shape).Reduces [1, 3] ⟨2, ![A, K]⟩) (h3 : (⟨2, ![A, K]⟩ : Shape).ShapeCasts ⟨4, ![A, 1, K, 1]⟩)
  (h4 : (⟨4, ![A, 1, K, 1]⟩ : Shape).Broadcasts ⟨4, ![A, 128, K, 128]⟩) (h5 : (⟨4, ![A, 1, K, 1]⟩ : Shape).ShapeCasts ⟨2, ![A, K]⟩)
  (h6 : (⟨4, ![A, 128, K, 128]⟩ : Shape).ShapeCasts ⟨2, ![R, W]⟩)

/-- The exponent of each tile's scale. -/
def ex : FVec Ideal ⟨4, ![A, 1, K, 1]⟩ .f32 :=
  have a : FVec Ideal ⟨4, ![A, 1, K, 1]⟩ .f32 := shapeCast ⟨4, ![A, 1, K, 1]⟩
    (multiReduction .maximumf [1, 3] ⟨2, ![A, K]⟩ (absf (shapeCast ⟨4, ![A, 128, K, 128]⟩ X h1)) 0xFF800000#32 h2 (.inl rfl) rfl) h3
  select (cmpf .oeq a (broadcast ⟨4, ![A, 1, K, 1]⟩ (Scalar.ofBits .f32 0x00000000#32))) (broadcast ⟨4, ![A, 1, K, 1]⟩ (Scalar.ofBits .f32 0x00000000#32))
    (addf (floor (divf (log (mulf a (broadcast ⟨4, ![A, 1, K, 1]⟩ (Scalar.ofBits .f32 0x3B124925#32)))) (broadcast ⟨4, ![A, 1, K, 1]⟩ (Scalar.log (Scalar.ofBits .f32 0x40000000#32)))))
      (broadcast ⟨4, ![A, 1, K, 1]⟩ (Scalar.ofBits .f32 0x3F800000#32)))

/-- The codes, by tiles. -/
def cd : FVec Ideal ⟨4, ![A, 128, K, 128]⟩ .fp8e4m3 :=
  truncf .fp8e4m3 (minimumf (broadcast ⟨4, ![A, 128, K, 128]⟩ (Scalar.ofBits .f32 0x43E00000#32)) (maximumf (broadcast ⟨4, ![A, 128, K, 128]⟩ (Scalar.ofBits .f32 0xC3E00000#32))
    (mulf (shapeCast ⟨4, ![A, 128, K, 128]⟩ X h1) (broadcastTo ⟨4, ![A, 128, K, 128]⟩ (exp2 (subf (broadcast ⟨4, ![A, 1, K, 1]⟩ (Scalar.ofBits .f32 0x00000000#32)) (ex X h1 h2 h3))) h4)))) (by decide)

/-- The scales. -/
def sc : FVec Ideal ⟨2, ![A, K]⟩ .f32 := shapeCast ⟨2, ![A, K]⟩ (exp2 (ex X h1 h2 h3)) h5

theorem ex_apply (a : Fin A) (g : Fin K) : ex X h1 h2 h3 (ix4 a 0 g 0) = Quant.rexp (amax (tl A K hR hW X a g)) := by
  refine Eq.trans (b := Quant.rexp (shapeCast ⟨4, ![A, 1, K, 1]⟩ (multiReduction .maximumf [1, 3] ⟨2, ![A, K]⟩ (absf (shapeCast ⟨4, ![A, 128, K, 128]⟩ X h1)) 0xFF800000#32 h2 (.inl rfl) rfl) h3 (ix4 a 0 g 0))) rfl ?_
  refine congrArg Quant.rexp ((addUnits_apply _ h3 a g).trans ((amax_apply _ h2 (.inl rfl) rfl a g).trans ?_))
  exact congrArg amax (funext fun q => funext fun k => split_apply hR hW X h1 a q g k)

theorem cd_apply (a : Fin A) (q : Fin 128) (g : Fin K) (k : Fin 128) (h : Quant.InRange (amax (tl A K hR hW X a g))) :
    cd X h1 h2 h3 h4 (ix4 a q g k) = code (tl A K hR hW X a g) q k := by
  refine Eq.trans (b := Tile.clip (shapeCast ⟨4, ![A, 128, K, 128]⟩ X h1 (ix4 a q g k)
    * broadcastTo ⟨4, ![A, 128, K, 128]⟩ (exp2 (subf (broadcast ⟨4, ![A, 1, K, 1]⟩ (Scalar.ofBits .f32 0x00000000#32)) (ex X h1 h2 h3))) h4 (ix4 a q g k))) rfl ?_
  rw [rep_apply, split_apply hR hW]
  refine congrArg (fun s => Tile.clip (tl A K hR hW X a g q k * s)) ?_
  show Ideal.exp2 (Ideal.ofBits .f32 0x00000000#32 - ex X h1 h2 h3 (ix4 a 0 g 0)) = _
  rw [ex_apply hR hW]
  exact (Quant.inv_eq h).symm

theorem sc_apply (a : Fin A) (g : Fin K) (h : Quant.InRange (amax (tl A K hR hW X a g))) :
    sc X h1 h2 h3 h5 (ix2 a g) = Quant.kscale (gt (tl A K hR hW X a g)) := by
  refine (dropUnits_apply (exp2 (ex X h1 h2 h3)) h5 a g).trans ?_
  show Ideal.exp2 (ex X h1 h2 h3 (ix4 a 0 g 0)) = _
  rw [ex_apply hR hW]
  exact (Quant.scale_eq h).symm

theorem cd_rows_apply (r : Fin R) (w : Fin W) (h : ∀ a g, Quant.InRange (amax (tl A K hR hW X a g))) :
    shapeCast ⟨2, ![R, W]⟩ (cd X h1 h2 h3 h4) h6 (ix2 r w)
      = code (tl A K hR hW X ⟨r.val / 128, by omega⟩ ⟨w.val / 128, by omega⟩) ⟨r.val % 128, by omega⟩ ⟨w.val % 128, by omega⟩ :=
  (join_apply hR hW _ h6 r w).trans (cd_apply hR hW X h1 h2 h3 h4 _ _ _ _ (h _ _))

end Quantiser

/-- The printed condition on an array, per tile. -/
def pre (X : FVec Ideal ⟨2, ![R, W]⟩ .f32) (h1 : (⟨2, ![R, W]⟩ : Shape).ShapeCasts ⟨4, ![A, 128, K, 128]⟩) (h : (⟨4, ![A, 128, K, 128]⟩ : Shape).ReducesTo [1, 3] ⟨2, ![A, K]⟩)
    (hu : 0 < (⟨0, ![]⟩ : Shape).numel) (hb : (⟨0, ![]⟩ : Shape).BroadcastsInDim ⟨2, ![A, K]⟩ (![] : Fin 0 → Fin (⟨2, ![A, K]⟩ : Shape).rank)) : IVec ⟨2, ![A, K]⟩ 1 :=
  have a : FVec Ideal ⟨2, ![A, K]⟩ .f32 := Host.reduce FloatOps.maximumf (Host.absf (shapeCast ⟨4, ![A, 128, K, 128]⟩ X h1)) (constant (F := Ideal) ⟨0, ![]⟩ .f32 0xFF800000#32) h hu
  ori (cmpf .oeq a (broadcastInDim ⟨2, ![A, K]⟩ ![] hb (constant (F := Ideal) ⟨0, ![]⟩ .f32 0x00000000#32)))
    (andi (cmpf .oge (mulf a (broadcastInDim ⟨2, ![A, K]⟩ ![] hb (constant (F := Ideal) ⟨0, ![]⟩ .f32 0x3B124925#32))) (broadcastInDim ⟨2, ![A, K]⟩ ![] hb (constant (F := Ideal) ⟨0, ![]⟩ .f32 0x00800000#32)))
      (cmpf .ole a (broadcastInDim ⟨2, ![A, K]⟩ ![] hb (constant (F := Ideal) ⟨0, ![]⟩ .f32 0x7F7FC99E#32))))

theorem inRange_of_pre (hR : R = 128 * A) (hW : W = 128 * K) (X : FVec Ideal ⟨2, ![R, W]⟩ .f32) (h1 h hu hb) (e : pre (A := A) (K := K) X h1 h hu hb = fun _ => 1#1) (a : Fin A) (g : Fin K) :
    Quant.InRange (amax (tl A K hR hW X a g)) := by
  have e' : Host.reduce FloatOps.maximumf (Host.absf (shapeCast ⟨4, ![A, 128, K, 128]⟩ X h1)) (constant (F := Ideal) ⟨0, ![]⟩ .f32 0xFF800000#32) h hu (ix2 a g) = amax (tl A K hR hW X a g) :=
    (hostMax_apply _ h hu a g).trans (congrArg amax (funext fun q => funext fun k => split_apply hR hW X h1 a q g k))
  rw [← e']
  exact RefOps.inRange_of _ (congrFun e (ix2 a g))

end Cert.Tiles

end
-- ==== Proof.WquantValue.lean ====
/- What the three result arrays of the weight-quantising kernel hold after the run: the codes, the transposed codes and the scales,
   each as a function of the weight. -/
module
public import proofs.«01_k».proof.Proof.WquantFrame
public import proofs.«01_k».proof.Proof.Tiles
import Idealize.ShloMosaic.Lib.Pointwise
@[expose] public section
set_option maxRecDepth 16384

noncomputable section

namespace Cert.WquantIdeal.Block

open Cert.WquantIdeal Cert.WquantIdeal.Gen Idealize.ShloMosaic Idealize.ShloMosaic.TcCoe Idealize.SL.Sem
open Idealize.ShloMosaic.Pipeline (Dat RDat)

/-- A tile's elements by row and column. -/
abbrev el (X : FVec Ideal S128x128 .f32) : Fin 128 → Fin 128 → EReal := fun q k => X (ix2 q k)

theorem tT_apply (X : FVec Ideal S128x128 .f32) : tT X (ix2 0 0) = Tiles.gt (el X) := by
  unfold tT Tiles.gt Tiles.amax
  pointwise
  rw [Tile.ofBits_bot_f32]
  rfl

theorem rep_apply (v : FVec Ideal S1x1 .f32) (q k : Fin 128) : broadcastTo S128x128 v broadcasts_S1x1_S128x128 (ix2 q k) = v (ix2 0 0) := by
  pointwise

theorem vT_apply (X : FVec Ideal S128x128 .f32) (q k : Fin 128) : vT X (ix2 q k) = Tiles.code (el X) q k := by
  refine Eq.trans (b := Tile.clip (X (ix2 q k) * broadcastTo S128x128 (Quant.invV (tT X)) broadcasts_S1x1_S128x128 (ix2 q k))) rfl ?_
  rw [rep_apply, Quant.invV_apply, tT_apply]
  rfl

theorem cT_apply (X : FVec Ideal S128x128 .f32) (q k : Fin 128) : cT X (ix2 q k) = Tiles.code (el X) q k := vT_apply X q k

theorem cTT_apply (X : FVec Ideal S128x128 .f32) (k q : Fin 128) : cTT X (ix2 k q) = Tiles.code (el X) q k :=
  (RefOps.swap_apply (R := 128) (K := 128) (vT X) transposes_S128x128_p1_0_S128x128 k q).trans (vT_apply X q k)

/-! ### The row of scales -/

theorem one_apply (v : FVec Ideal S1x1 .f32) (g : Fin 6) :
    broadcastTo S1x6 (shapeCast S1x1 v shapeCasts_S1x1_S1x1) broadcasts_S1x1_S1x6 (ix2 0 g) = v (ix2 0 0) := by pointwise

theorem at_apply : ∀ (g j : Fin 6), cmpi .eq (iota .tc S1x6 32 [1] iota_S1x6_d1_w32) (broadcast S1x6 (BitVec.ofNat 32 j.val)) (ix2 0 g) = BitVec.ofBool (decide (g = j)) := by
  decide +kernel

theorem rowT_foldl (X : Fin 6 → FVec Ideal S128x128 .f32) (g : Fin 6) (l : List (Fin 6)) (r0 : FVec Ideal S1x6 .f32) :
    l.foldl (fun r j => select (cmpi .eq (iota .tc S1x6 32 [1] iota_S1x6_d1_w32) (broadcast S1x6 (BitVec.ofNat 32 j.val)))
      (broadcastTo S1x6 (shapeCast S1x1 (Quant.scaleV (tT (X j))) shapeCasts_S1x1_S1x1) broadcasts_S1x1_S1x6) r) r0 (ix2 0 g)
    = l.foldl (fun a j => if g = j then Quant.kscale (tT (X j) (ix2 0 0)) else a) (r0 (ix2 0 g)) := by
  induction l generalizing r0 with
  | nil => rfl
  | cons j l ih =>
    rw [List.foldl_cons, List.foldl_cons, ih]
    congr 1
    show Scalar.select (cmpi .eq (iota .tc S1x6 32 [1] iota_S1x6_d1_w32) (broadcast S1x6 (BitVec.ofNat 32 j.val)) (ix2 0 g))
      (broadcastTo S1x6 (shapeCast S1x1 (Quant.scaleV (tT (X j))) shapeCasts_S1x1_S1x1) broadcasts_S1x1_S1x6 (ix2 0 g)) (r0 (ix2 0 g)) = _
    rw [at_apply, one_apply, Quant.scaleV_apply]
    by_cases hg : g = j
    · rw [decide_eq_true hg, if_pos hg]; rfl
    · rw [decide_eq_false hg, if_neg hg]; rfl

theorem rowT_apply (X : Fin 6 → FVec Ideal S128x128 .f32) (g : Fin 6) : rowT X (ix2 0 g) = Quant.kscale (Tiles.gt (el (X g))) := by
  unfold rowT
  rw [rowT_foldl, show List.finRange 6 = [0, 1, 2, 3, 4, 5] from by decide, ← tT_apply]
  fin_cases g <;> simp [List.foldl]

/-! ### The arrays -/

variable (m : (ℓ : Loc nD τ sig) → Buf (Elt Ideal) ℓ)

/-- Tile `a`, `g` of the weight. -/
abbrev wt (w : Vec Ideal S4096x768 .f32) (a : Fin 32) (g : Fin 6) : Fin 128 → Fin 128 → EReal := Tiles.tl 32 6 (R := 4096) (W := 768) rfl rfl w a g

/-- The codes. -/
def Q (w : Vec Ideal S4096x768 .f32) : Vec Ideal S4096x768 .fp8e4m3 :=
  fun j => have h0 : (j 0).val < 4096 := (j 0).isLt
    have h1 : (j 1).val < 768 := (j 1).isLt
    Tiles.code (wt w ⟨(j 0).val / 128, by omega⟩ ⟨(j 1).val / 128, by omega⟩) ⟨(j 0).val % 128, by omega⟩ ⟨(j 1).val % 128, by omega⟩

/-- The transposed codes. -/
def QT (w : Vec Ideal S4096x768 .f32) : Vec Ideal S768x4096 .fp8e4m3 := fun j => Q w (ix2 (j 1) (j 0))

/-- The scales. -/
def Sc (w : Vec Ideal S4096x768 .f32) : Vec Ideal S32x6 .f32 := fun j => Quant.kscale (Tiles.gt (wt w (j 0) (j 1)))

theorem idx : ∀ t : Fin cfg0.N, win0_0.index t = ![t.val, 0] ∧ win0_1.index t = ![t.val, 0] ∧ win0_2.index t = ![0, t.val] ∧ win0_3.index t = ![0, 0] :=
  (by decide +kernel : ∀ t : Fin grid0.N, _)

theorem blk_apply (c : Dev nD) (t : Fin cfg0.N) (q : Fin 128) (w : Fin 768) (h : 128 * t.val + q.val < 4096) :
    blk m c t (ix2 q w) = m ((c : Thread nD τ).loc main_arg0) (ix2 ⟨128 * t.val + q.val, h⟩ w) := by
  blk_ext! [blk, iblk, V, idx t]

theorem tile_el (c : Dev nD) (t : Fin cfg0.N) (j : Fin 6) : el (tile (blk m c t) j) = wt (m ((c : Thread nD τ).loc main_arg0)) ⟨t.val, t.isLt⟩ j :=
  funext fun q => funext fun k => by
    have ht : t.val < 32 := t.isLt
    refine Eq.trans (b := blk m c t (ix2 q ⟨128 * j.val + k.val, by omega⟩)) ?_ (blk_apply m c t q _ (by omega))
    refine congrArg (blk m c t) ((Tile.emb_unit2 (inb1 j) q k (by omega) (by omega)).trans ?_)
    congr 1
    exact Fin.ext (Nat.zero_add _)

theorem P1_apply (c : Dev nD) (t : Fin cfg0.N) (q : Fin 128) (w : Fin 768) : View.canon (P1 (blk m c t)) (ix2 q w)
    = Tiles.code (wt (m ((c : Thread nD τ).loc main_arg0)) ⟨t.val, t.isLt⟩ ⟨w.val / 128, by omega⟩) q ⟨w.val % 128, by omega⟩ := by
  refine (Tile.canon_cols (e := .fp8e4m3) (R := 128) (W := 768) (N := 6) rfl inb1 (fun j => cT (tile (blk m c t) j)) q w).trans ((cT_apply _ _ _).trans ?_)
  rw [tile_el]

theorem P2_apply (c : Dev nD) (t : Fin cfg0.N) (w : Fin 768) (q : Fin 128) : View.canon (P2 (blk m c t)) (ix2 w q)
    = Tiles.code (wt (m ((c : Thread nD τ).loc main_arg0)) ⟨t.val, t.isLt⟩ ⟨w.val / 128, by omega⟩) q ⟨w.val % 128, by omega⟩ := by
  refine (Tile.canon_rows (e := .fp8e4m3) (R := 128) (W := 768) (N := 6) rfl inb2 (fun j => cTT (tile (blk m c t) j)) w q).trans ((cTT_apply _ _ _).trans ?_)
  rw [tile_el]

theorem Q_at (w : Vec Ideal S4096x768 .f32) (a : Fin 32) (q : Fin 128) (k : Fin 768) (h : a.val * 128 + q.val < 4096) :
    Q w (ix2 ⟨a.val * 128 + q.val, h⟩ k) = Tiles.code (wt w a ⟨k.val / 128, by omega⟩) q ⟨k.val % 128, by omega⟩ := by
  have e1 : (⟨(a.val * 128 + q.val) / 128, by omega⟩ : Fin 32) = a := Fin.ext (by simp only; omega)
  have e2 : (⟨(a.val * 128 + q.val) % 128, by omega⟩ : Fin 128) = q := Fin.ext (by simp only; omega)
  show Tiles.code (wt w ⟨(a.val * 128 + q.val) / 128, _⟩ _) ⟨(a.val * 128 + q.val) % 128, _⟩ _ = _
  rw [e1, e2]
  rfl

/-- What the body leaves in an unmarked window at a point that writes it back is what the exact data name. -/
theorem left (c : Dev nD) (w : Fin cfg0.W) (hw : mark w = false) (hl : cfg0.loose w = false) (t : Fin cfg0.N) (hf : (cfg0.win w).flush t = true)
    (X : (cfg0.win w).block.Idx → Elt Ideal (cfg0.win w).elt) (h : (rdat m c).Leaves w t X) : X = (dat m c).after w t := by
  obtain ⟨Y, -, hX⟩ := h
  rw [(dat m c).toRRel_after_of_eq_false hw] at hX
  have hX' : (dat m c).Leaves w t X := hX
  rw [Dat.Leaves.live_iff _ (.inr hf)] at hX'
  rw [hl] at hX'
  exact hX'

variable (c : Dev nD) (after : (w' : Fin cfg0.W) → Fin cfg0.N → (cfg0.win w').block.Idx → Elt Ideal (cfg0.win w').elt)
  (hL : ∀ (w : Fin cfg0.W) (u : Fin cfg0.N), (cfg0.win w).flush u = true → (rdat m c).Leaves w u (after w u))
include hL

theorem final1 : ((rdat m c).withAfter after).arrAt 1 cfg0.N = Q (m ((c : Thread nD τ).loc main_arg0)) := by
  refine ((rdat m c).withAfter after).arrAt_eq_of_covers 1 _ (by decide +kernel) fun t hf y => ?_
  have ha : after 1 t = View.canon (P1 (blk m c t)) := (left m c 1 rfl rfl t hf _ (hL 1 t hf)).trans (after1 m c t)
  blk_simp
  rw [RDat.withAfter_after, ha]
  obtain ⟨q, w, rfl⟩ : ∃ (q : Fin 128) (w : Fin 768), y = ix2 q w := ⟨y 0, y 1, eq_ix2 y⟩
  have ht : t.val < 32 := t.isLt
  have e : (win0_1.blk t).view.emb (ix2 q w) = ix2 (⟨t.val * 128 + q.val, by omega⟩ : Fin 4096) w := by
    blk_ext [idx t]
  rw [e]
  exact (P1_apply m c t q w).trans (Q_at _ ⟨t.val, ht⟩ q w (by simp only; omega)).symm

theorem final2 : ((rdat m c).withAfter after).arrAt 2 cfg0.N = QT (m ((c : Thread nD τ).loc main_arg0)) := by
  refine ((rdat m c).withAfter after).arrAt_eq_of_covers 2 _ (by decide +kernel) fun t hf y => ?_
  have ha : after 2 t = View.canon (P2 (blk m c t)) := (left m c 2 rfl rfl t hf _ (hL 2 t hf)).trans (after2 m c t)
  blk_simp
  rw [RDat.withAfter_after, ha]
  obtain ⟨w, q, rfl⟩ : ∃ (w : Fin 768) (q : Fin 128), y = ix2 w q := ⟨y 0, y 1, eq_ix2 y⟩
  have ht : t.val < 32 := t.isLt
  have e : (win0_2.blk t).view.emb (ix2 w q) = ix2 w (⟨t.val * 128 + q.val, by omega⟩ : Fin 4096) := by
    blk_ext [idx t]
  rw [e]
  exact (P2_apply m c t w q).trans (Q_at _ ⟨t.val, ht⟩ q w (by simp only; omega)).symm

theorem final3 : ((rdat m c).withAfter after).arrAt 3 cfg0.N = Sc (m ((c : Thread nD τ).loc main_arg0)) := by
  refine ((rdat m c).withAfter after).arrAt_eq_of_covers 3 _ (by decide +kernel) fun t hf y => ?_
  have ha : Rows m c t (after 3 t) := (dat m c).toRRel_leaves (w := 3) rfl (hL 3 t hf)
  have h31 := (flush0_3 t).1 hf
  blk_simp
  rw [RDat.withAfter_after]
  obtain ⟨s, g, rfl⟩ : ∃ (s : Fin 32) (g : Fin 6), y = ix2 s g := ⟨y 0, y 1, eq_ix2 y⟩
  have e : (win0_3.blk t).view.emb (ix2 s g) = ix2 s g := by
    blk_ext [idx t]
  rw [e]
  exact (ha s g (by omega)).trans ((rowT_apply _ _).trans (congrArg (fun x => Quant.kscale (Tiles.gt x)) (tile_el m c s g)))

omit hL

/-- The run, with the three results named. -/
theorem run (ρ : Dev nD → PrngReg) : θ_run defs (onTc (τ := τ) (main (F := Ideal))) ⟨m, fun _ => 0, ρ⟩ (fun r => ∀ c : Dev nD,
      r.2.mem ((c.tc : Thread nD τ).loc main_v0_0) = Q (m ((c.tc : Thread nD τ).loc main_arg0))
      ∧ r.2.mem ((c.tc : Thread nD τ).loc main_v0_1) = QT (m ((c.tc : Thread nD τ).loc main_arg0))
      ∧ r.2.mem ((c.tc : Thread nD τ).loc main_v0_2) = Sc (m ((c.tc : Thread nD τ).loc main_arg0))
      ∧ r.2.mem ((c.tc : Thread nD τ).loc main_arg0) = m ((c.tc : Thread nD τ).loc main_arg0)) :=
  (θ_run defs _ _).mono (fun _ h c => by
    obtain ⟨after, hL, hA⟩ := h.1.exists_exact c
    exact ⟨(hA 1).trans (final1 m c after hL), (hA 2).trans (final2 m c after hL), (hA 3).trans (final3 m c after hL),
      (h.1.arr_in c 0 rfl).trans ((A_eq m c 0).trans (V_main_arg0 m c))⟩) (run_main_quiescent m ρ)

end Cert.WquantIdeal.Block

end
-- ==== Proof.WquantRef.lean ====
/- What the weight-quantising reference computes at an index: the codes, the transposed codes and the scales. -/
module
public import proofs.«01_k».proof.Proof.Gen.WquantRefIdeal.Value
public import proofs.«01_k».proof.Proof.Tiles
@[expose] public section
set_option maxRecDepth 16384

noncomputable section

namespace Cert.WquantRefIdeal.RefValue

open Cert.WquantRefIdeal Cert.WquantRefIdeal.Gen Idealize.ShloMosaic Idealize.ShloMosaic.TcCoe Idealize.SL.Sem

variable (a0 : Vec Ideal S4096x768 .f32)

theorem pay3_eq : k0_pay3 a0 = Tiles.sc (A := 32) (K := 6) (R := 4096) (W := 768) a0 shapeCasts_S4096x768_S32x128x6x128 reduces_S32x128x6x128_S32x6
    shapeCasts_S32x6_S32x1x6x1 shapeCasts_S32x1x6x1_S32x6 := rfl

theorem pay4_eq : k0_pay4 a0 = shapeCast S4096x768 (Tiles.cd (A := 32) (K := 6) (R := 4096) (W := 768) a0 shapeCasts_S4096x768_S32x128x6x128 reduces_S32x128x6x128_S32x6
    shapeCasts_S32x6_S32x1x6x1 broadcasts_S32x1x6x1_S32x128x6x128) shapeCasts_S32x128x6x128_S4096x768 := rfl

/-- Every tile's largest magnitude is in the range of the scales. -/
def InRange : Prop := ∀ a g, Quant.InRange (Tiles.amax (Tiles.tl 32 6 (R := 4096) (W := 768) rfl rfl a0 a g))

variable {a0}

theorem scales_apply (h : InRange a0) (a : Fin 32) (g : Fin 6) :
    k0_pay3 a0 (ix2 a g) = Quant.kscale (Tiles.gt (Tiles.tl 32 6 (R := 4096) (W := 768) rfl rfl a0 a g)) := by
  rw [pay3_eq]
  exact Tiles.sc_apply (A := 32) (K := 6) (R := 4096) (W := 768) rfl rfl a0 _ _ _ _ a g (h a g)

theorem codes_apply (h : InRange a0) (r : Fin 4096) (w : Fin 768) :
    k0_pay4 a0 (ix2 r w) = Tiles.code (Tiles.tl 32 6 (R := 4096) (W := 768) rfl rfl a0 ⟨r.val / 128, by omega⟩ ⟨w.val / 128, by omega⟩)
      ⟨r.val % 128, by omega⟩ ⟨w.val % 128, by omega⟩ := by
  rw [pay4_eq]
  exact Tiles.cd_rows_apply (A := 32) (K := 6) (R := 4096) (W := 768) rfl rfl a0 _ _ _ _ shapeCasts_S32x128x6x128_S4096x768 r w h

theorem codesT_apply (w : Fin 768) (r : Fin 4096) : k0_pay5 a0 (ix2 w r) = k0_pay4 a0 (ix2 r w) :=
  RefOps.swap_apply (R := 4096) (K := 768) (k0_pay4 a0) transposes_S4096x768_p1_0_S768x4096 w r

end Cert.WquantRefIdeal.RefValue

end
-- ==== Proof.WquantPair.lean ====
/- The weight-quantising kernel and its reference, run on the same weight, end with the same codes and scales, when every tile's
   largest magnitude is in range. -/
module
public import proofs.«01_k».proof.Defs
public import proofs.«01_k».proof.Proof.WquantValue
public import proofs.«01_k».proof.Proof.WquantRef
public import proofs.«01_k».proof.Proof.Gen.Pre_w_range
@[expose] public section
set_option maxRecDepth 16384

noncomputable section

namespace Cert.WquantTie

open Idealize.ShloMosaic Idealize.ShloMosaic.TcCoe Idealize.SL.Sem Cert.WquantRefIdeal.RefValue Cert.WquantIdeal.Block

variable (a0 : Vec Ideal Cert.WquantIdeal.S4096x768 .f32)

/-- What the printed condition says of the weight. -/
theorem inRange (h : Cert.Pre_w_range.fn (F := Ideal) a0 = fun _ => 1#1) : InRange a0 := fun a g =>
  Tiles.inRange_of_pre (A := 32) (K := 6) (R := 4096) (W := 768) rfl rfl a0 _ _ _ _ h a g

variable {a0}

theorem codes_eq (h : InRange a0) : Q a0 = Cert.WquantRefIdeal.Value.G1 a0 := funext fun j => by
  obtain ⟨r, w, rfl⟩ : ∃ (r : Fin 4096) (w : Fin 768), j = ix2 r w := ⟨j 0, j 1, eq_ix2 j⟩
  exact (codes_apply h r w).symm

theorem codesT_eq (h : InRange a0) : QT a0 = Cert.WquantRefIdeal.Value.G2 a0 := funext fun j => by
  obtain ⟨w, r, rfl⟩ : ∃ (w : Fin 768) (r : Fin 4096), j = ix2 w r := ⟨j 0, j 1, eq_ix2 j⟩
  exact ((codesT_apply w r).trans (codes_apply h r w)).symm

theorem scales_eq (h : InRange a0) : Sc a0 = Cert.WquantRefIdeal.Value.G3 a0 := funext fun j => by
  obtain ⟨a, g, rfl⟩ : ∃ (a : Fin 32) (g : Fin 6), j = ix2 a g := ⟨j 0, j 1, eq_ix2 j⟩
  exact (scales_apply h a g).symm

theorem algebraic : Cert.algebraic_WquantIdeal_WquantRefIdeal_pre_w_range := fun m g m' g' hpre hargs => by
  have hr (c) := inRange _ (hpre c)
  refine ⟨_, _, _, run m g, (θ_run _ _ _).mono (fun r h c => ⟨(h c).1.trans ?_, (h c).2.1.trans ?_, (h c).2.2.1.trans ?_, (h c).2.2.2⟩) (Cert.WquantRefIdeal.Value.run m' g')⟩
  · rw [hargs c]
    exact (codes_eq (hr c)).symm
  · rw [hargs c]
    exact (codesT_eq (hr c)).symm
  · rw [hargs c]
    exact (scales_eq (hr c)).symm

end Cert.WquantTie

end
-- ==== Proof.FwdBlock.lean ====
module
public import proofs.«01_k».proof.Proof.Gen.FwdIdeal.Value
public import proofs.«01_k».proof.Proof.Tile
@[expose] public section
set_option maxRecDepth 16384
noncomputable section
namespace Cert.FwdIdeal.Block
open Cert.FwdIdeal Cert.FwdIdeal.Gen Idealize.ShloMosaic Idealize.ShloMosaic.TcCoe Idealize.SL.Sem
variable {F : FTy → Type} [FloatOps F]
variable (c : Dev nD) (arg1 : Memref sig .tc .smem S32x6 .f32) (harg1 : arg1.IsWhole) (arg2 : Memref sig .tc .vmem S256x4096 .bf16) (harg2 : arg2.IsWhole) (arg3 : Memref sig .tc .vmem S768x4096 .fp8e4m3) (harg3 : arg3.IsWhole) (arg7 : Memref sig .tc .vmem S4096x256 .fp8e4m3)
   (x0 : Vec F S32x6 .f32) (x1 : Vec F S256x4096 .bf16) (x2 : Vec F S768x4096 .fp8e4m3)

/-- The block of `x` as loaded. -/
def ld1 : FVec F (Tile.SX 4096) .bf16 := View.readAt (Elt F) arg2.view (Rect.unit ![0, 0] S256x4096.size inb_S256x4096_S256x4096_0_0).toLoadRect (harg2.unread x1)

theorem conc : Shape.Concatenates (List.replicate 32 S256x1) S256x32 1 := concatenates_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x32_d1

def tt : FVec F (Tile.SX 32) .f32 := Tile.tV 32 (by omega) (ld1 arg2 harg2 x1) conc

theorem scale_eq : kernelRun0_A.sl.r_37 c arg2 harg2 x1 = Quant.scaleV (tt arg2 harg2 x1) := rfl
theorem inv_eq : kernelRun0_A.sl.r_38 c arg2 harg2 x1 = Quant.invV (tt arg2 harg2 x1) := rfl

def vv (g : Fin 32) : FVec F S256x128 .f32 := Tile.vals (ld1 arg2 harg2 x1) (Quant.invV (tt arg2 harg2 x1)) g.val g.isLt (by omega)

theorem inb4 (g : Fin 32) : ∀ a : Fin 2, ![0, 128 * g.val] a + S256x128.size a ≤ S256x4096.size a := fun a => by
  match a with
  | ⟨0, _⟩ => exact Nat.le_refl 256
  | ⟨1, _⟩ => show 128 * g.val + 128 ≤ 4096; omega

theorem inb7 (g : Fin 32) : ∀ a : Fin 2, ![128 * g.val, 0] a + S128x256.size a ≤ S4096x256.size a := fun a => by
  match a with
  | ⟨1, _⟩ => exact Nat.le_refl 256
  | ⟨0, _⟩ => show 128 * g.val + 128 ≤ 4096; omega

def piece4 (g : Fin 32) : View.Piece (Elt F) S256x4096 .fp8e4m3 := ⟨Rect.unit ![0, 128 * g.val] S256x128.size (inb4 g), Tile.codes (vv arg2 harg2 x1 g)⟩
def piece7 (g : Fin 32) : View.Piece (Elt F) S4096x256 .fp8e4m3 := ⟨Rect.unit ![128 * g.val, 0] S128x256.size (inb7 g), Tile.codesT (vv arg2 harg2 x1 g)⟩

theorem pieces7 : kernelRun0_A.sl.HS0_32 c arg2 harg2 x1 = (List.finRange 32).reverse.map (piece7 arg2 harg2 x1) := rfl

section
variable (i : grid0.Coords) (arg4 : Memref sig .tc .vmem S256x768 .bf16) (harg4 : arg4.IsWhole) (arg5 : Memref sig .tc .vmem S256x4096 .fp8e4m3) (harg5 : arg5.IsWhole) (arg6 : Memref sig .tc .vmem S256x32 .f32) (harg6 : arg6.IsWhole) (harg7 : arg7.IsWhole)

theorem pieces4 : (kernelRun0_A c i arg1 harg1 arg2 harg2 arg3 harg3 arg4 harg4 arg5 harg5 arg6 harg6 arg7 harg7 x0 x1 x2).2.1
    = (List.finRange 32).reverse.map (piece4 arg2 harg2 x1) := rfl

theorem inbW (j : Fin 6) (g : Fin 32) : ∀ a : Fin 2, ![128 * j.val, 128 * g.val] a + S128x128.size a ≤ S768x4096.size a := fun a => by
  match a with
  | ⟨0, _⟩ => show 128 * j.val + 128 ≤ 768; omega
  | ⟨1, _⟩ => show 128 * g.val + 128 ≤ 4096; omega
theorem inbS (g : Fin 32) (j : Fin 6) : ∀ a : Fin 2, ![g.val, j.val] a + S1x1.size a ≤ S32x6.size a := fun a => by
  match a with
  | ⟨0, _⟩ => exact g.isLt
  | ⟨1, _⟩ => exact j.isLt
theorem inb3 (j : Fin 6) : ∀ a : Fin 2, ![0, 128 * j.val] a + S256x128.size a ≤ S256x768.size a := fun a => by
  match a with
  | ⟨0, _⟩ => exact Nat.le_refl 256
  | ⟨1, _⟩ => show 128 * j.val + 128 ≤ 768; omega

def stt : FVec F (Tile.ST 32) .f32 := transpose S32x256 [1, 0] (Quant.scaleV (tt arg2 harg2 x1)) transposes_S256x32_p1_0_S32x256
def wtt (j : Fin 6) (g : Fin 32) : FVec F S128x128 .fp8e4m3 :=
  View.readAt (Elt F) arg3.view (Rect.unit (s := S768x4096) ![128 * j.val, 128 * g.val] S128x128.size (inbW j g)).toLoadRect (harg3.unread x2)
def xtt (g : Fin 32) : FVec F S128x256 .fp8e4m3 :=
  arg7.view.readCov ((List.finRange 32).reverse.map (piece7 arg2 harg2 x1)) (Rect.unit (s := S4096x256) ![128 * g.val, 0] S128x256.size (inb7 g)).toLoadRect
def sct (j : Fin 6) (g : Fin 32) : F .f32 :=
  View.readAt (Elt F) arg1.view (Rect.unit (s := S32x6) ![g.val, j.val] S1x1.size (inbS g j)).toLoadRect (harg1.unread x0) (Shape.Idx.first (show 0 < S1x1.numel by decide))
def piece3 (j : Fin 6) : View.Piece (Elt F) S256x768 .bf16 :=
  ⟨Rect.unit ![0, 128 * j.val] S256x128.size (inb3 j), Tile.out (stt arg2 harg2 x1) (wtt arg3 harg3 x2 j) (xtt arg2 harg2 arg7 x1) (sct arg1 harg1 x0 j)⟩

set_option maxHeartbeats 1000000
theorem pieces3 : (kernelRun0_A c i arg1 harg1 arg2 harg2 arg3 harg3 arg4 harg4 arg5 harg5 arg6 harg6 arg7 harg7 x0 x1 x2).1
    = (List.finRange 6).reverse.map (piece3 arg1 harg1 arg2 harg2 arg3 harg3 arg7 x0 x1 x2) := rfl
end

/-! ### The three blocks at an index -/

section
variable (i : grid0.Coords) (arg4 : Memref sig .tc .vmem S256x768 .bf16) (harg4 : arg4.IsWhole) (arg5 : Memref sig .tc .vmem S256x4096 .fp8e4m3) (harg5 : arg5.IsWhole) (arg6 : Memref sig .tc .vmem S256x32 .f32) (harg6 : arg6.IsWhole) (harg7 : arg7.IsWhole)
variable (y0 : Vec Ideal S32x6 .f32) (y1 : Vec Ideal S256x4096 .bf16) (y2 : Vec Ideal S768x4096 .fp8e4m3)

theorem ld1_eq : ld1 arg2 harg2 y1 = y1 := by
  unfold ld1
  rw [View.readAt_eq_ld, harg2.read_unread]
  exact View.ld_unit_zero (S := S256x4096) (funext fun a => by fin_cases a <;> rfl) _ y1

theorem tt_apply (r : Fin 256) (g : Fin 32) : tt arg2 harg2 y1 (ix2 r g) = Tile.gt (Tile.grp 32 rfl y1 r g) := by
  unfold tt
  refine (Tile.tV_apply ..).trans ?_
  rw [ld1_eq]
  rfl

theorem vv_apply (g : Fin 32) (r : Fin 256) (k : Fin 128) : vv arg2 harg2 y1 g (ix2 r k) = Tile.code (Tile.grp 32 rfl y1 r g) k := by
  unfold vv
  rw [Tile.vals_apply, Quant.invV_apply, ld1_eq]
  unfold Tile.code
  rw [← tt_apply arg2 harg2 y1]
  rfl

theorem block5 (r : Fin 256) (g : Fin 32) :
    out0_A_5 c i arg1 harg1 arg2 harg2 arg3 harg3 arg4 harg4 arg5 harg5 arg6 harg6 arg7 harg7 y0 y1 y2 (ix2 r g)
      = Quant.kscale (Tile.gt (Tile.grp 32 rfl y1 r g)) := by
  have h : out0_A_5 c i arg1 harg1 arg2 harg2 arg3 harg3 arg4 harg4 arg5 harg5 arg6 harg6 arg7 harg7 y0 y1 y2
      = Quant.scaleV (tt arg2 harg2 y1) := by
    unfold out0_A_5
    rw [View.read_writes_eq_canon _ _ _ (cover0_A_5 c _ _ _ _ _ _ _ _ _ _ _ _ _ _ _ _ _ _)]
    unfold kernelRun0_A; dsimp only
    rw [View.canon_unit_zero (funext fun a => by fin_cases a <;> rfl)]
    exact scale_eq c arg2 harg2 y1
  rw [h, Quant.scaleV_apply, tt_apply]

theorem block4 (r : Fin 256) (w : Fin 4096) :
    out0_A_4 c i arg1 harg1 arg2 harg2 arg3 harg3 arg4 harg4 arg5 harg5 arg6 harg6 arg7 harg7 y0 y1 y2 (ix2 r w)
      = Tile.code (Tile.grp 32 rfl y1 r ⟨w.val / 128, by omega⟩) ⟨w.val % 128, by omega⟩ := by
  unfold out0_A_4
  rw [View.read_writes_eq_canon _ _ _ (cover0_A_4 c _ _ _ _ _ _ _ _ _ _ _ _ _ _ _ _ _ _)]
  rw [pieces4]
  exact (Tile.canon_cols (e := .fp8e4m3) (R := 256) (W := 4096) (N := 32) rfl inb4 (fun g => Tile.codes (vv arg2 harg2 y1 g)) r w).trans (vv_apply arg2 harg2 y1 _ r _)

theorem stt_apply (g : Fin 32) (r : Fin 256) : stt arg2 harg2 y1 (ix2 g r) = Quant.kscale (Tile.gt (Tile.grp 32 rfl y1 r g)) := by
  unfold stt
  have h : transpose S32x256 [1, 0] (Quant.scaleV (tt arg2 harg2 y1)) transposes_S256x32_p1_0_S32x256 (ix2 g r) = Quant.scaleV (tt arg2 harg2 y1) (ix2 r g) := by
    pointwise
  rw [h, Quant.scaleV_apply, tt_apply]

theorem wtt_apply (j : Fin 6) (g : Fin 32) (n k : Fin 128) :
    wtt arg3 harg3 y2 j g (ix2 n k) = y2 (ix2 ⟨128 * j.val + n.val, by omega⟩ ⟨128 * g.val + k.val, by omega⟩) := by
  unfold wtt
  rw [View.readAt_eq_ld, harg3.read_unread]
  exact congrArg y2 (Tile.emb_unit2 (inbW j g) n k (by omega) (by omega))

theorem sct_apply (j : Fin 6) (g : Fin 32) : sct arg1 harg1 y0 j g = y0 (ix2 g j) := by
  unfold sct
  rw [View.readAt_eq_ld, harg1.read_unread]
  refine congrArg y0 (funext fun b => Fin.ext ?_)
  match b with
  | ⟨0, _⟩ => show g.val + 1 * 0 = g.val; simp
  | ⟨1, _⟩ => show j.val + 1 * 0 = j.val; simp

theorem xtt_apply (g : Fin 32) (k : Fin 128) (r : Fin 256) :
    xtt arg2 harg2 arg7 y1 g (ix2 k r) = Tile.code (Tile.grp 32 rfl y1 r g) k := by
  unfold xtt
  rw [View.readCov_eq_canon']
  show View.canon _ ((Rect.unit (s := S4096x256) ![128 * g.val, 0] S128x256.size (inb7 g)).emb (ix2 k r)) = _
  rw [show (Rect.unit (s := S4096x256) ![128 * g.val, 0] S128x256.size (inb7 g)).emb (ix2 k r) = ix2 ⟨128 * g.val + k.val, by omega⟩ r from
    (Tile.emb_unit2 (inb7 g) k r (by omega) (by omega)).trans (congrArg _ (Fin.ext (Nat.zero_add _)))]
  have h1 : (⟨(128 * g.val + k.val) / 128, by omega⟩ : Fin 32) = g := Fin.ext (by simp only; omega)
  have h2 : (⟨(128 * g.val + k.val) % 128, by omega⟩ : Fin 128) = k := Fin.ext (by simp only; omega)
  refine (Tile.canon_rows (e := .fp8e4m3) (R := 256) (W := 4096) (N := 32) rfl inb7 (fun g => Tile.codesT (vv arg2 harg2 y1 g)) _ r).trans ?_
  refine ((Tile.codesT_apply _ _ r).trans (vv_apply arg2 harg2 y1 _ r _)).trans ?_
  rw [h1, h2]

/-- Row `n` of the codes of the weight, by groups. -/
def wrow (y2 : Vec Ideal S768x4096 .fp8e4m3) (n : Fin 768) (g : Fin 32) (k : Fin 128) : EReal := y2 (ix2 n ⟨128 * g.val + k.val, by omega⟩)
/-- The weight's scales of column block `j`. -/
def scol (y0 : Vec Ideal S32x6 .f32) (n : Fin 768) (g : Fin 32) : EReal := y0 (ix2 g ⟨n.val / 128, by omega⟩)

theorem block3 (r : Fin 256) (n : Fin 768) :
    out0_A_3 c i arg1 harg1 arg2 harg2 arg3 harg3 arg4 harg4 arg5 harg5 arg6 harg6 arg7 harg7 y0 y1 y2 (ix2 r n)
      = Tile.prod (Tile.grp 32 rfl y1 r) (wrow y2 n) (scol y0 n) := by
  unfold out0_A_3
  rw [View.read_writes_eq_canon _ _ _ (cover0_A_3 c _ _ _ _ _ _ _ _ _ _ _ _ _ _ _ _ _ _)]
  rw [pieces3]
  refine (Tile.canon_cols (e := .bf16) (R := 256) (W := 768) (N := 6) rfl inb3 (fun j => Tile.out (stt arg2 harg2 y1) (wtt arg3 harg3 y2 j) (xtt arg2 harg2 arg7 y1) (sct arg1 harg1 y0 j)) r n).trans ?_
  refine (Tile.out_apply _ _ _ _ r _).trans ?_
  refine Finset.sum_congr rfl fun g _ => ?_
  rw [stt_apply, sct_apply]
  refine congrArg (· * _) (Finset.sum_congr rfl fun q _ => ?_)
  rw [wtt_apply, xtt_apply]
  have h : (⟨128 * (n.val / 128) + n.val % 128, by omega⟩ : Fin 768) = n := Fin.ext (by simp only; omega)
  simp only [h]
  rfl

end

end Cert.FwdIdeal.Block

end
-- ==== Proof.FwdValue.lean ====
module
public import proofs.«01_k».proof.Proof.FwdBlock
import Idealize.ShloMosaic.Lib.Pointwise
@[expose] public section

/-!
  What the three result arrays of the forward kernel hold after the run: the product, the codes of `x` and the scales of
  `x`, each as a function of the argument arrays.
-/

noncomputable section

namespace Cert.FwdIdeal.ArrayValue

open Cert.FwdIdeal Cert.FwdIdeal.Gen Cert.FwdIdeal.Block Idealize.ShloMosaic Idealize.ShloMosaic.TcCoe Idealize.SL.Sem

variable (m : (ℓ : Loc nD τ sig) → Buf (Elt Ideal) ℓ)

/-- The product of the quantised rows of `x` with the rows of codes. -/
def Y (a0 : Vec Ideal S32x6 .f32) (a1 : Vec Ideal S32768x4096 .bf16) (a2 : Vec Ideal S768x4096 .fp8e4m3) : Vec Ideal S32768x768 .bf16 :=
  fun j => Tile.prod (Tile.grp 32 rfl a1 (j 0)) (wrow a2 (j 1)) (scol a0 (j 1))

/-- The codes of `x`. -/
def Q (a1 : Vec Ideal S32768x4096 .bf16) : Vec Ideal S32768x4096 .fp8e4m3 :=
  fun j => have h : (j 1).val < 4096 := (j 1).isLt
    Tile.code (Tile.grp 32 rfl a1 (j 0) ⟨(j 1).val / 128, by omega⟩) ⟨(j 1).val % 128, by omega⟩

/-- The scales of `x`. -/
def Sc (a1 : Vec Ideal S32768x4096 .bf16) : Vec Ideal S32768x32 .f32 :=
  fun j => Quant.kscale (Tile.gt (Tile.grp 32 rfl a1 (j 0) (j 1)))

theorem idx : ∀ t : Fin cfg0.N, win0_0.index t = ![0, 0] ∧ win0_1.index t = ![t.val, 0] ∧ win0_2.index t = ![0, 0]
    ∧ win0_3.index t = ![t.val, 0] ∧ win0_4.index t = ![t.val, 0] ∧ win0_5.index t = ![t.val, 0] :=
  (by decide +kernel : ∀ t : Fin grid0.N, _)

theorem N_eq : cfg0.N = 128 := by decide +kernel

theorem iblk0 (c : Dev nD) (t : Fin cfg0.N) : iblk m c 0 t = m ((c : Thread nD τ).loc main_arg0) := by
  blk_ext! [iblk, V, idx t]

theorem iblk2 (c : Dev nD) (t : Fin cfg0.N) : iblk m c 2 t = m ((c : Thread nD τ).loc main_arg2) := by
  blk_ext! [iblk, V, idx t]

/-- Row `r` of block `t` of `x` is row `256 t + r` of `x`. -/
theorem iblk1 (c : Dev nD) (t : Fin cfg0.N) (r : Fin 256) (w : Fin 4096) (h : t.val * 256 + r.val < 32768) :
    iblk m c 1 t (ix2 r w) = m ((c : Thread nD τ).loc main_arg1) (ix2 ⟨t.val * 256 + r.val, h⟩ w) := by
  blk_ext! [iblk, V, idx t]

theorem grp1 (c : Dev nD) (t : Fin cfg0.N) (r : Fin 256) (h : t.val * 256 + r.val < 32768) :
    Tile.grp 32 rfl (iblk m c 1 t) r = Tile.grp 32 rfl (m ((c : Thread nD τ).loc main_arg1)) ⟨t.val * 256 + r.val, h⟩ :=
  funext fun _ => funext fun _ => iblk1 m c t r _ h

theorem final3 (c : Dev nD) : (dats m 0 c).arrAt 3 cfg0.N
    = Y (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  simp only [outsAt0]
  obtain ⟨r, n, rfl⟩ : ∃ (r : Fin 256) (n : Fin 768), y = ix2 r n := ⟨y 0, y 1, eq_ix2 y⟩
  have ht : t.val < 128 := N_eq ▸ t.isLt
  have e : (win0_3.blk t).view.emb (ix2 r n) = ix2 (⟨t.val * 256 + r.val, by omega⟩ : Fin 32768) n := by
    blk_ext [idx t]
  rw [e]
  refine (block3 ..).trans ?_
  rw [iblk0, iblk2, grp1 m c t r (by omega)]
  rfl

theorem final4 (c : Dev nD) : (dats m 0 c).arrAt 4 cfg0.N = Q (m ((c : Thread nD τ).loc main_arg1)) := by
  refine (dats m 0 c).arrAt_eq_of_covers 4 _ (by decide +kernel) fun t _ y => ?_
  blk_simp
  rw [after0_4]
  simp only [outsAt0]
  obtain ⟨r, n, rfl⟩ : ∃ (r : Fin 256) (n : Fin 4096), y = ix2 r n := ⟨y 0, y 1, eq_ix2 y⟩
  have ht : t.val < 128 := N_eq ▸ t.isLt
  have e : (win0_4.blk t).view.emb (ix2 r n) = ix2 (⟨t.val * 256 + r.val, by omega⟩ : Fin 32768) n := by
    blk_ext [idx t]
  rw [e]
  refine (block4 ..).trans ?_
  rw [grp1 m c t r (by omega)]
  rfl

theorem final5 (c : Dev nD) : (dats m 0 c).arrAt 5 cfg0.N = Sc (m ((c : Thread nD τ).loc main_arg1)) := by
  refine (dats m 0 c).arrAt_eq_of_covers 5 _ (by decide +kernel) fun t _ y => ?_
  blk_simp
  rw [after0_5]
  simp only [outsAt0]
  obtain ⟨r, n, rfl⟩ : ∃ (r : Fin 256) (n : Fin 32), y = ix2 r n := ⟨y 0, y 1, eq_ix2 y⟩
  have ht : t.val < 128 := N_eq ▸ t.isLt
  have e : (win0_5.blk t).view.emb (ix2 r n) = ix2 (⟨t.val * 256 + r.val, by omega⟩ : Fin 32768) n := by
    blk_ext [idx t]
  rw [e]
  refine (block5 ..).trans ?_
  rw [grp1 m c t r (by omega)]
  rfl

end Cert.FwdIdeal.ArrayValue

end
-- ==== Proof.FwdRef.lean ====
/- What the forward reference computes at an index: the product of the quantised rows, the codes and the scales. -/
module
public import proofs.«01_k».proof.Proof.Gen.FwdRefIdeal.Value
public import proofs.«01_k».proof.Proof.RefOps
@[expose] public section
set_option maxRecDepth 16384

noncomputable section

namespace Cert.FwdRefIdeal.RefValue

open Cert.FwdRefIdeal Cert.FwdRefIdeal.Gen Idealize.ShloMosaic Idealize.ShloMosaic.TcCoe Idealize.SL.Sem
open scoped BigOperators

variable (a0 : Vec Ideal S32x6 .f32) (a1 : Vec Ideal S32768x4096 .bf16) (a2 : Vec Ideal S768x4096 .fp8e4m3)

/-- The codes, by groups. -/
def cd : FVec Ideal S32768x32x128 .fp8e4m3 := RefOps.cd (R := 32768) (K := 32) (W := 4096) a1
  shapeCasts_S32768x4096_S32768x32x128 reduces_S32768x32x128_S32768x32 shapeCasts_S32768x32_S32768x32x1 broadcasts_S32768x32x1_S32768x32x128

/-- The scales. -/
def sc : FVec Ideal S32768x32 .f32 := RefOps.sc (R := 32768) (K := 32) (W := 4096) a1
  shapeCasts_S32768x4096_S32768x32x128 reduces_S32768x32x128_S32768x32 shapeCasts_S32768x32_S32768x32x1 shapeCasts_S32768x32x1_S32768x32

theorem pay5_eq : k0_pay5 a1 = cd a1 := rfl
theorem pay6_eq : k0_pay6 a1 = sc a1 := rfl

/-- The weight's rows by groups. -/
def wb : FVec Ideal S32x128x768 .fp8e4m3 :=
  shapeCast S32x128x768 (transpose S4096x768 [1, 0] a2 transposes_S768x4096_p1_0_S4096x768) shapeCasts_S4096x768_S32x128x768

theorem wb_apply (g : Fin 32) (k : Fin 128) (n : Fin 768) : wb a2 (ix3 g k n) = a2 (ix2 n ⟨128 * g.val + k.val, by omega⟩) :=
  (RefOps.splitRows_apply (K := 32) (W := 4096) (R := 768) rfl (transpose S4096x768 [1, 0] a2 transposes_S768x4096_p1_0_S4096x768) shapeCasts_S4096x768_S32x128x768 g k n).trans
    (RefOps.swap_apply (R := 768) (K := 4096) a2 transposes_S768x4096_p1_0_S4096x768 _ n)

/-- The partial products. -/
def pr : FVec Ideal S32x32768x768 .f32 :=
  matmul (RefOps.bdot 32 32768 128 768 dot_S32x32768x128_S32x128x768_S32x32768x768_2_1_1_2_0_0_wf) none
    (transpose S32x32768x128 [1, 0, 2] (cd a1) transposes_S32768x32x128_p1_0_2_S32x32768x128) (wb a2) (constant S32x32768x768 .f32 0x00000000#32)

theorem pr_apply (g : Fin 32) (r : Fin 32768) (n : Fin 768) :
    pr a1 a2 (ix3 g r n) = ∑ k : Fin 128, cd a1 (ix3 r g k) * a2 (ix2 n ⟨128 * g.val + k.val, by omega⟩) := by
  refine (RefOps.bdot_apply (K := 32) (R := 32768) (P := 128) (N := 768) dot_S32x32768x128_S32x128x768_S32x32768x768_2_1_1_2_0_0_wf
    (transpose S32x32768x128 [1, 0, 2] (cd a1) transposes_S32768x32x128_p1_0_2_S32x32768x128) (wb a2) g r n).trans (Finset.sum_congr rfl fun k _ => ?_)
  rw [wb_apply]
  exact congrArg (· * _) (RefOps.swap3_apply (R := 32768) (K := 32) (n := 128) (cd a1) transposes_S32768x32x128_p1_0_2_S32x32768x128 g r k)

/-- The weight's scales repeated over their columns. -/
theorem pay7_apply (g : Fin 32) (n : Fin 768) : k0_pay7 a0 (ix2 g n) = a0 (ix2 g ⟨n.val / 128, by omega⟩) :=
  (RefOps.join_apply (R := 32) (K := 6) (W := 768) rfl (broadcastTo S32x6x128 (shapeCast S32x6x1 a0 shapeCasts_S32x6_S32x6x1) broadcasts_S32x6x1_S32x6x128) shapeCasts_S32x6x128_S32x768 g n).trans
    ((RefOps.repLast_apply (R := 32) (K := 6) (n := 128) (shapeCast S32x6x1 a0 shapeCasts_S32x6_S32x6x1) broadcasts_S32x6x1_S32x6x128 g _ _).trans
      (RefOps.addUnit_apply (R := 32) (K := 6) a0 shapeCasts_S32x6_S32x6x1 g _ 0))

theorem pay1_eq : k0_pay1 (k0_pay7 a0) (k0_pay8 a1 a2) = RefOps.wsum (K := 32) (R := 32768) (N := 768) (pr a1 a2) (sc a1) (k0_pay7 a0)
    transposes_S32768x32_p1_0_S32x32768 shapeCasts_S32x32768_S32x32768x1 broadcasts_S32x32768x1_S32x32768x768 shapeCasts_S32x768_S32x1x768
    broadcasts_S32x1x768_S32x32768x768 reduces_S32x32768x768_S32768x768 := rfl

/-- Every group's largest magnitude is in the range of the scales. -/
def InRange : Prop := ∀ r g, Quant.InRange (Tile.amax (Tile.grp 32 (R := 32768) (W := 4096) rfl a1 r g))

variable {a1}

theorem codes_apply (h : InRange a1) (r : Fin 32768) (w : Fin 4096) :
    k0_pay2 (k0_pay5 a1) (ix2 r w) = Tile.code (Tile.grp 32 (R := 32768) (W := 4096) rfl a1 r ⟨w.val / 128, by omega⟩) ⟨w.val % 128, by omega⟩ := by
  rw [pay5_eq]
  exact RefOps.cd_rows_apply (R := 32768) (K := 32) (W := 4096) rfl a1 _ _ _ _ shapeCasts_S32768x32x128_S32768x4096 r w (h r)

theorem scales_apply (h : InRange a1) (r : Fin 32768) (g : Fin 32) :
    k0_pay6 a1 (ix2 r g) = Quant.kscale (Tile.gt (Tile.grp 32 (R := 32768) (W := 4096) rfl a1 r g)) := by
  rw [pay6_eq]
  exact RefOps.sc_apply (R := 32768) (K := 32) (W := 4096) rfl a1 _ _ _ _ r g (h r g)

theorem prod_apply (h : InRange a1) (r : Fin 32768) (n : Fin 768) :
    k0_pay1 (k0_pay7 a0) (k0_pay8 a1 a2) (ix2 r n)
      = Tile.prod (Tile.grp 32 (R := 32768) (W := 4096) rfl a1 r) (fun g k => a2 (ix2 n ⟨128 * g.val + k.val, by omega⟩)) (fun g => a0 (ix2 g ⟨n.val / 128, by omega⟩)) := by
  rw [pay1_eq]
  refine (RefOps.wsum_apply (K := 32) (R := 32768) (N := 768) (pr a1 a2) (sc a1) (k0_pay7 a0) _ _ _ _ _ _ r n).trans (Finset.sum_congr rfl fun g _ => ?_)
  rw [pay7_apply, pr_apply, ← pay6_eq, scales_apply h]
  refine congrArg (· * _) (Finset.sum_congr rfl fun k _ => (congrArg (· * _) ?_).trans (mul_comm _ _))
  exact RefOps.cd_apply (R := 32768) (K := 32) (W := 4096) rfl a1 _ _ _ _ r g k (h r g)

end Cert.FwdRefIdeal.RefValue
-- ==== Proof.FwdTie.lean ====
/- The forward kernel and its reference leave the same arrays, when every group's largest magnitude is in range. -/
module
public import proofs.«01_k».proof.Proof.FwdValue
public import proofs.«01_k».proof.Proof.FwdRef
public import proofs.«01_k».proof.Proof.Gen.Pre_x_range
@[expose] public section
set_option maxRecDepth 16384

noncomputable section

namespace Cert.FwdTie

open Idealize.ShloMosaic Cert.FwdRefIdeal.RefValue Cert.FwdIdeal.ArrayValue

variable (a0 : Vec Ideal Cert.FwdIdeal.S32x6 .f32) (a1 : Vec Ideal Cert.FwdIdeal.S32768x4096 .bf16) (a2 : Vec Ideal Cert.FwdIdeal.S768x4096 .fp8e4m3)

/-- What the printed condition says of `x`. -/
theorem inRange (h : Cert.Pre_x_range.fn (F := Ideal) a0 a1 a2 = fun _ => 1#1) : InRange a1 := fun r g =>
  RefOps.inRange_of_pre (R := 32768) (K := 32) (W := 4096) rfl a1 _ _ _ _ h r g

variable {a1}

theorem prod_eq (h : InRange a1) : Y a0 a1 a2 = Cert.FwdRefIdeal.Value.G3 a0 a1 a2 := funext fun j => by
  obtain ⟨r, n, rfl⟩ : ∃ (r : Fin 32768) (n : Fin 768), j = ix2 r n := ⟨j 0, j 1, eq_ix2 j⟩
  exact (prod_apply a0 a2 h r n).symm

theorem codes_eq (h : InRange a1) : Q a1 = Cert.FwdRefIdeal.Value.G4 a0 a1 a2 := funext fun j => by
  obtain ⟨r, n, rfl⟩ : ∃ (r : Fin 32768) (n : Fin 4096), j = ix2 r n := ⟨j 0, j 1, eq_ix2 j⟩
  exact (codes_apply h r n).symm

theorem scales_eq (h : InRange a1) : Sc a1 = Cert.FwdRefIdeal.Value.G5 a0 a1 a2 := funext fun j => by
  obtain ⟨r, n, rfl⟩ : ∃ (r : Fin 32768) (n : Fin 32), j = ix2 r n := ⟨j 0, j 1, eq_ix2 j⟩
  exact (scales_apply h r n).symm

end Cert.FwdTie

end
-- ==== Proof.FwdPair.lean ====
/- The forward kernel and its reference, run on the same arguments, end with the same results. -/
module
public import proofs.«01_k».proof.Defs
public import proofs.«01_k».proof.Proof.FwdTie
@[expose] public section

noncomputable section

namespace Cert.FwdTie

open Idealize.ShloMosaic Idealize.ShloMosaic.TcCoe Idealize.SL.Sem

theorem algebraic : Cert.algebraic_FwdIdeal_FwdRefIdeal_pre_x_range := fun m g m' g' hpre hargs => by
  have hr (c) := inRange _ _ _ (hpre c)
  refine ⟨_, _, _, (θ_run _ _ _).mono (fun r h c => ⟨(h c).1.trans (Cert.FwdIdeal.ArrayValue.final3 m c), (h c).2.1.trans (Cert.FwdIdeal.ArrayValue.final4 m c),
    (h c).2.2.1.trans (Cert.FwdIdeal.ArrayValue.final5 m c), (h c).2.2.2⟩) (Cert.FwdIdeal.Value.run_blocks m g),
    (θ_run _ _ _).mono (fun r h c => ⟨(h c).1.trans ?_, (h c).2.1.trans ?_, (h c).2.2.1.trans ?_, (h c).2.2.2⟩) (Cert.FwdRefIdeal.Value.run m' g')⟩
  · rw [(hargs c).1, (hargs c).2.1, (hargs c).2.2]
    exact (prod_eq _ _ (hr c)).symm
  · rw [(hargs c).1, (hargs c).2.1, (hargs c).2.2]
    exact (codes_eq _ _ (hr c)).symm
  · rw [(hargs c).1, (hargs c).2.1, (hargs c).2.2]
    exact (scales_eq _ _ (hr c)).symm

end Cert.FwdTie

end
-- ==== Proof.DxBlock.lean ====
module
public import proofs.«01_k».proof.Proof.Gen.DxIdeal.Value
public import proofs.«01_k».proof.Proof.Tile
@[expose] public section
set_option maxRecDepth 16384
noncomputable section
namespace Cert.DxIdeal.Block
open Cert.DxIdeal Cert.DxIdeal.Gen Idealize.ShloMosaic Idealize.ShloMosaic.TcCoe Idealize.SL.Sem
variable {F : FTy → Type} [FloatOps F]
variable (c : Dev nD) (arg1 : Memref sig .tc .smem S32x6 .f32) (harg1 : arg1.IsWhole) (arg2 : Memref sig .tc .vmem S256x768 .bf16) (harg2 : arg2.IsWhole) (arg3 : Memref sig .tc .vmem S4096x768 .fp8e4m3) (harg3 : arg3.IsWhole) (arg7 : Memref sig .tc .vmem S768x256 .fp8e4m3)
   (x0 : Vec F S32x6 .f32) (x1 : Vec F S256x768 .bf16) (x2 : Vec F S4096x768 .fp8e4m3)

/-- The block of `dy` as loaded. -/
def ld1 : FVec F (Tile.SX 768) .bf16 := View.readAt (Elt F) arg2.view (Rect.unit ![0, 0] S256x768.size inb_S256x768_S256x768_0_0).toLoadRect (harg2.unread x1)

theorem conc : Shape.Concatenates (List.replicate 6 S256x1) S256x6 1 := concatenates_S256x1_S256x1_S256x1_S256x1_S256x1_S256x1_S256x6_d1

def tt : FVec F (Tile.SX 6) .f32 := Tile.tV 6 (by omega) (ld1 arg2 harg2 x1) conc

theorem scale_eq : kernelRun0_A.sl.r_4 c arg2 harg2 x1 = Quant.scaleV (tt arg2 harg2 x1) := rfl
theorem inv_eq : kernelRun0_A.sl.r_5 c arg2 harg2 x1 = Quant.invV (tt arg2 harg2 x1) := rfl

def vv (g : Fin 6) : FVec F S256x128 .f32 := Tile.vals (ld1 arg2 harg2 x1) (Quant.invV (tt arg2 harg2 x1)) g.val g.isLt (by omega)

theorem inb4 (g : Fin 6) : ∀ a : Fin 2, ![0, 128 * g.val] a + S256x128.size a ≤ S256x768.size a := fun a => by
  match a with
  | ⟨0, _⟩ => exact Nat.le_refl 256
  | ⟨1, _⟩ => show 128 * g.val + 128 ≤ 768; omega

theorem inb7 (g : Fin 6) : ∀ a : Fin 2, ![128 * g.val, 0] a + S128x256.size a ≤ S768x256.size a := fun a => by
  match a with
  | ⟨1, _⟩ => exact Nat.le_refl 256
  | ⟨0, _⟩ => show 128 * g.val + 128 ≤ 768; omega

def piece4 (g : Fin 6) : View.Piece (Elt F) S256x768 .fp8e4m3 := ⟨Rect.unit ![0, 128 * g.val] S256x128.size (inb4 g), Tile.codes (vv arg2 harg2 x1 g)⟩
def piece7 (g : Fin 6) : View.Piece (Elt F) S768x256 .fp8e4m3 := ⟨Rect.unit ![128 * g.val, 0] S128x256.size (inb7 g), Tile.codesT (vv arg2 harg2 x1 g)⟩

theorem pieces7 : kernelRun0_A.sl.HS0_6 c arg2 harg2 x1 = (List.finRange 6).reverse.map (piece7 arg2 harg2 x1) := rfl

section
variable (i : grid0.Coords) (arg4 : Memref sig .tc .vmem S256x4096 .bf16) (harg4 : arg4.IsWhole) (arg5 : Memref sig .tc .vmem S256x768 .fp8e4m3) (harg5 : arg5.IsWhole) (arg6 : Memref sig .tc .vmem S256x6 .f32) (harg6 : arg6.IsWhole) (harg7 : arg7.IsWhole)

theorem pieces4 : (kernelRun0_A c i arg1 harg1 arg2 harg2 arg3 harg3 arg4 harg4 arg5 harg5 arg6 harg6 arg7 harg7 x0 x1 x2).2.1
    = (List.finRange 6).reverse.map (piece4 arg2 harg2 x1) := rfl

theorem inbW (j : Fin 32) (g : Fin 6) : ∀ a : Fin 2, ![128 * j.val, 128 * g.val] a + S128x128.size a ≤ S4096x768.size a := fun a => by
  match a with
  | ⟨0, _⟩ => show 128 * j.val + 128 ≤ 4096; omega
  | ⟨1, _⟩ => show 128 * g.val + 128 ≤ 768; omega
theorem inbS (g : Fin 6) (j : Fin 32) : ∀ a : Fin 2, ![j.val, g.val] a + S1x1.size a ≤ S32x6.size a := fun a => by
  match a with
  | ⟨0, _⟩ => exact j.isLt
  | ⟨1, _⟩ => exact g.isLt
theorem inb3 (j : Fin 32) : ∀ a : Fin 2, ![0, 128 * j.val] a + S256x128.size a ≤ S256x4096.size a := fun a => by
  match a with
  | ⟨0, _⟩ => exact Nat.le_refl 256
  | ⟨1, _⟩ => show 128 * j.val + 128 ≤ 4096; omega

def stt : FVec F (Tile.ST 6) .f32 := transpose S6x256 [1, 0] (Quant.scaleV (tt arg2 harg2 x1)) transposes_S256x6_p1_0_S6x256
def wtt (j : Fin 32) (g : Fin 6) : FVec F S128x128 .fp8e4m3 :=
  View.readAt (Elt F) arg3.view (Rect.unit (s := S4096x768) ![128 * j.val, 128 * g.val] S128x128.size (inbW j g)).toLoadRect (harg3.unread x2)
def xtt (g : Fin 6) : FVec F S128x256 .fp8e4m3 :=
  arg7.view.readCov ((List.finRange 6).reverse.map (piece7 arg2 harg2 x1)) (Rect.unit (s := S768x256) ![128 * g.val, 0] S128x256.size (inb7 g)).toLoadRect
def sct (j : Fin 32) (g : Fin 6) : F .f32 :=
  View.readAt (Elt F) arg1.view (Rect.unit (s := S32x6) ![j.val, g.val] S1x1.size (inbS g j)).toLoadRect (harg1.unread x0) (Shape.Idx.first (show 0 < S1x1.numel by decide))
def piece3 (j : Fin 32) : View.Piece (Elt F) S256x4096 .bf16 :=
  ⟨Rect.unit ![0, 128 * j.val] S256x128.size (inb3 j), Tile.out (stt arg2 harg2 x1) (wtt arg3 harg3 x2 j) (xtt arg2 harg2 arg7 x1) (sct arg1 harg1 x0 j)⟩

set_option maxHeartbeats 1000000
theorem pieces3 : (kernelRun0_A c i arg1 harg1 arg2 harg2 arg3 harg3 arg4 harg4 arg5 harg5 arg6 harg6 arg7 harg7 x0 x1 x2).1
    = (List.finRange 32).reverse.map (piece3 arg1 harg1 arg2 harg2 arg3 harg3 arg7 x0 x1 x2) := rfl
end

/-! ### The three blocks at an index -/

section
variable (i : grid0.Coords) (arg4 : Memref sig .tc .vmem S256x4096 .bf16) (harg4 : arg4.IsWhole) (arg5 : Memref sig .tc .vmem S256x768 .fp8e4m3) (harg5 : arg5.IsWhole) (arg6 : Memref sig .tc .vmem S256x6 .f32) (harg6 : arg6.IsWhole) (harg7 : arg7.IsWhole)
variable (y0 : Vec Ideal S32x6 .f32) (y1 : Vec Ideal S256x768 .bf16) (y2 : Vec Ideal S4096x768 .fp8e4m3)

theorem ld1_eq : ld1 arg2 harg2 y1 = y1 := by
  unfold ld1
  rw [View.readAt_eq_ld, harg2.read_unread]
  exact View.ld_unit_zero (S := S256x768) (funext fun a => by fin_cases a <;> rfl) _ y1

theorem tt_apply (r : Fin 256) (g : Fin 6) : tt arg2 harg2 y1 (ix2 r g) = Tile.gt (Tile.grp 6 rfl y1 r g) := by
  unfold tt
  refine (Tile.tV_apply ..).trans ?_
  rw [ld1_eq]
  rfl

theorem vv_apply (g : Fin 6) (r : Fin 256) (k : Fin 128) : vv arg2 harg2 y1 g (ix2 r k) = Tile.code (Tile.grp 6 rfl y1 r g) k := by
  unfold vv
  rw [Tile.vals_apply, Quant.invV_apply, ld1_eq]
  unfold Tile.code
  rw [← tt_apply arg2 harg2 y1]
  rfl

theorem block5 (r : Fin 256) (g : Fin 6) :
    out0_A_5 c i arg1 harg1 arg2 harg2 arg3 harg3 arg4 harg4 arg5 harg5 arg6 harg6 arg7 harg7 y0 y1 y2 (ix2 r g)
      = Quant.kscale (Tile.gt (Tile.grp 6 rfl y1 r g)) := by
  have h : out0_A_5 c i arg1 harg1 arg2 harg2 arg3 harg3 arg4 harg4 arg5 harg5 arg6 harg6 arg7 harg7 y0 y1 y2
      = Quant.scaleV (tt arg2 harg2 y1) := by
    unfold out0_A_5
    rw [View.read_writes_eq_canon _ _ _ (cover0_A_5 c _ _ _ _ _ _ _ _ _ _ _ _ _ _ _ _ _ _)]
    unfold kernelRun0_A; dsimp only
    rw [View.canon_unit_zero (funext fun a => by fin_cases a <;> rfl)]
    exact scale_eq c arg2 harg2 y1
  rw [h, Quant.scaleV_apply, tt_apply]

theorem block4 (r : Fin 256) (w : Fin 768) :
    out0_A_4 c i arg1 harg1 arg2 harg2 arg3 harg3 arg4 harg4 arg5 harg5 arg6 harg6 arg7 harg7 y0 y1 y2 (ix2 r w)
      = Tile.code (Tile.grp 6 rfl y1 r ⟨w.val / 128, by omega⟩) ⟨w.val % 128, by omega⟩ := by
  unfold out0_A_4
  rw [View.read_writes_eq_canon _ _ _ (cover0_A_4 c _ _ _ _ _ _ _ _ _ _ _ _ _ _ _ _ _ _)]
  rw [pieces4]
  exact (Tile.canon_cols (e := .fp8e4m3) (R := 256) (W := 768) (N := 6) rfl inb4 (fun g => Tile.codes (vv arg2 harg2 y1 g)) r w).trans (vv_apply arg2 harg2 y1 _ r _)

theorem stt_apply (g : Fin 6) (r : Fin 256) : stt arg2 harg2 y1 (ix2 g r) = Quant.kscale (Tile.gt (Tile.grp 6 rfl y1 r g)) := by
  unfold stt
  have h : transpose S6x256 [1, 0] (Quant.scaleV (tt arg2 harg2 y1)) transposes_S256x6_p1_0_S6x256 (ix2 g r) = Quant.scaleV (tt arg2 harg2 y1) (ix2 r g) := by
    pointwise
  rw [h, Quant.scaleV_apply, tt_apply]

theorem wtt_apply (j : Fin 32) (g : Fin 6) (n k : Fin 128) :
    wtt arg3 harg3 y2 j g (ix2 n k) = y2 (ix2 ⟨128 * j.val + n.val, by omega⟩ ⟨128 * g.val + k.val, by omega⟩) := by
  unfold wtt
  rw [View.readAt_eq_ld, harg3.read_unread]
  exact congrArg y2 (Tile.emb_unit2 (inbW j g) n k (by omega) (by omega))

theorem sct_apply (j : Fin 32) (g : Fin 6) : sct arg1 harg1 y0 j g = y0 (ix2 j g) := by
  unfold sct
  rw [View.readAt_eq_ld, harg1.read_unread]
  refine congrArg y0 (funext fun b => Fin.ext ?_)
  match b with
  | ⟨0, _⟩ => show j.val + 1 * 0 = j.val; simp
  | ⟨1, _⟩ => show g.val + 1 * 0 = g.val; simp

theorem xtt_apply (g : Fin 6) (k : Fin 128) (r : Fin 256) :
    xtt arg2 harg2 arg7 y1 g (ix2 k r) = Tile.code (Tile.grp 6 rfl y1 r g) k := by
  unfold xtt
  rw [View.readCov_eq_canon']
  show View.canon _ ((Rect.unit (s := S768x256) ![128 * g.val, 0] S128x256.size (inb7 g)).emb (ix2 k r)) = _
  rw [show (Rect.unit (s := S768x256) ![128 * g.val, 0] S128x256.size (inb7 g)).emb (ix2 k r) = ix2 ⟨128 * g.val + k.val, by omega⟩ r from
    (Tile.emb_unit2 (inb7 g) k r (by omega) (by omega)).trans (congrArg _ (Fin.ext (Nat.zero_add _)))]
  have h1 : (⟨(128 * g.val + k.val) / 128, by omega⟩ : Fin 6) = g := Fin.ext (by simp only; omega)
  have h2 : (⟨(128 * g.val + k.val) % 128, by omega⟩ : Fin 128) = k := Fin.ext (by simp only; omega)
  refine (Tile.canon_rows (e := .fp8e4m3) (R := 256) (W := 768) (N := 6) rfl inb7 (fun g => Tile.codesT (vv arg2 harg2 y1 g)) _ r).trans ?_
  refine ((Tile.codesT_apply _ _ r).trans (vv_apply arg2 harg2 y1 _ r _)).trans ?_
  rw [h1, h2]

/-- Row `n` of the codes of the weight, by groups. -/
def wrow (y2 : Vec Ideal S4096x768 .fp8e4m3) (n : Fin 4096) (g : Fin 6) (k : Fin 128) : EReal := y2 (ix2 n ⟨128 * g.val + k.val, by omega⟩)
/-- The weight's scales of row `n`. -/
def scol (y0 : Vec Ideal S32x6 .f32) (n : Fin 4096) (g : Fin 6) : EReal := y0 (ix2 ⟨n.val / 128, by omega⟩ g)

theorem block3 (r : Fin 256) (n : Fin 4096) :
    out0_A_3 c i arg1 harg1 arg2 harg2 arg3 harg3 arg4 harg4 arg5 harg5 arg6 harg6 arg7 harg7 y0 y1 y2 (ix2 r n)
      = Tile.prod (Tile.grp 6 rfl y1 r) (wrow y2 n) (scol y0 n) := by
  unfold out0_A_3
  rw [View.read_writes_eq_canon _ _ _ (cover0_A_3 c _ _ _ _ _ _ _ _ _ _ _ _ _ _ _ _ _ _)]
  rw [pieces3]
  refine (Tile.canon_cols (e := .bf16) (R := 256) (W := 4096) (N := 32) rfl inb3 (fun j => Tile.out (stt arg2 harg2 y1) (wtt arg3 harg3 y2 j) (xtt arg2 harg2 arg7 y1) (sct arg1 harg1 y0 j)) r n).trans ?_
  refine (Tile.out_apply _ _ _ _ r _).trans ?_
  refine Finset.sum_congr rfl fun g _ => ?_
  rw [stt_apply, sct_apply]
  refine congrArg (· * _) (Finset.sum_congr rfl fun q _ => ?_)
  rw [wtt_apply, xtt_apply]
  have h : (⟨128 * (n.val / 128) + n.val % 128, by omega⟩ : Fin 4096) = n := Fin.ext (by simp only; omega)
  simp only [h]
  rfl

end

end Cert.DxIdeal.Block

end
-- ==== Proof.DxValue.lean ====
module
public import proofs.«01_k».proof.Proof.DxBlock
import Idealize.ShloMosaic.Lib.Pointwise
@[expose] public section

/-!
  What the three result arrays of the backward kernel hold after the run: the product, the codes of `dy` and the scales of
  `dy`, each as a function of the argument arrays.
-/

noncomputable section

namespace Cert.DxIdeal.ArrayValue

open Cert.DxIdeal Cert.DxIdeal.Gen Cert.DxIdeal.Block Idealize.ShloMosaic Idealize.ShloMosaic.TcCoe Idealize.SL.Sem

variable (m : (ℓ : Loc nD τ sig) → Buf (Elt Ideal) ℓ)

/-- The product of the quantised rows of `dy` with the rows of codes. -/
def Y (a0 : Vec Ideal S32x6 .f32) (a1 : Vec Ideal S32768x768 .bf16) (a2 : Vec Ideal S4096x768 .fp8e4m3) : Vec Ideal S32768x4096 .bf16 :=
  fun j => Tile.prod (Tile.grp 6 rfl a1 (j 0)) (wrow a2 (j 1)) (scol a0 (j 1))

/-- The codes of `dy`. -/
def Q (a1 : Vec Ideal S32768x768 .bf16) : Vec Ideal S32768x768 .fp8e4m3 :=
  fun j => have h : (j 1).val < 768 := (j 1).isLt
    Tile.code (Tile.grp 6 rfl a1 (j 0) ⟨(j 1).val / 128, by omega⟩) ⟨(j 1).val % 128, by omega⟩

/-- The scales of `dy`. -/
def Sc (a1 : Vec Ideal S32768x768 .bf16) : Vec Ideal S32768x6 .f32 :=
  fun j => Quant.kscale (Tile.gt (Tile.grp 6 rfl a1 (j 0) (j 1)))

theorem idx : ∀ t : Fin cfg0.N, win0_0.index t = ![0, 0] ∧ win0_1.index t = ![t.val, 0] ∧ win0_2.index t = ![0, 0]
    ∧ win0_3.index t = ![t.val, 0] ∧ win0_4.index t = ![t.val, 0] ∧ win0_5.index t = ![t.val, 0] :=
  (by decide +kernel : ∀ t : Fin grid0.N, _)

theorem N_eq : cfg0.N = 128 := by decide +kernel

theorem iblk0 (c : Dev nD) (t : Fin cfg0.N) : iblk m c 0 t = m ((c : Thread nD τ).loc main_arg0) := by
  blk_ext! [iblk, V, idx t]

theorem iblk2 (c : Dev nD) (t : Fin cfg0.N) : iblk m c 2 t = m ((c : Thread nD τ).loc main_arg2) := by
  blk_ext! [iblk, V, idx t]

/-- Row `r` of block `t` of `dy` is row `256 t + r` of `dy`. -/
theorem iblk1 (c : Dev nD) (t : Fin cfg0.N) (r : Fin 256) (w : Fin 768) (h : t.val * 256 + r.val < 32768) :
    iblk m c 1 t (ix2 r w) = m ((c : Thread nD τ).loc main_arg1) (ix2 ⟨t.val * 256 + r.val, h⟩ w) := by
  blk_ext! [iblk, V, idx t]

theorem grp1 (c : Dev nD) (t : Fin cfg0.N) (r : Fin 256) (h : t.val * 256 + r.val < 32768) :
    Tile.grp 6 rfl (iblk m c 1 t) r = Tile.grp 6 rfl (m ((c : Thread nD τ).loc main_arg1)) ⟨t.val * 256 + r.val, h⟩ :=
  funext fun _ => funext fun _ => iblk1 m c t r _ h

theorem final3 (c : Dev nD) : (dats m 0 c).arrAt 3 cfg0.N
    = Y (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  simp only [outsAt0]
  obtain ⟨r, n, rfl⟩ : ∃ (r : Fin 256) (n : Fin 4096), y = ix2 r n := ⟨y 0, y 1, eq_ix2 y⟩
  have ht : t.val < 128 := N_eq ▸ t.isLt
  have e : (win0_3.blk t).view.emb (ix2 r n) = ix2 (⟨t.val * 256 + r.val, by omega⟩ : Fin 32768) n := by
    blk_ext [idx t]
  rw [e]
  refine (block3 ..).trans ?_
  rw [iblk0, iblk2, grp1 m c t r (by omega)]
  rfl

theorem final4 (c : Dev nD) : (dats m 0 c).arrAt 4 cfg0.N = Q (m ((c : Thread nD τ).loc main_arg1)) := by
  refine (dats m 0 c).arrAt_eq_of_covers 4 _ (by decide +kernel) fun t _ y => ?_
  blk_simp
  rw [after0_4]
  simp only [outsAt0]
  obtain ⟨r, n, rfl⟩ : ∃ (r : Fin 256) (n : Fin 768), y = ix2 r n := ⟨y 0, y 1, eq_ix2 y⟩
  have ht : t.val < 128 := N_eq ▸ t.isLt
  have e : (win0_4.blk t).view.emb (ix2 r n) = ix2 (⟨t.val * 256 + r.val, by omega⟩ : Fin 32768) n := by
    blk_ext [idx t]
  rw [e]
  refine (block4 ..).trans ?_
  rw [grp1 m c t r (by omega)]
  rfl

theorem final5 (c : Dev nD) : (dats m 0 c).arrAt 5 cfg0.N = Sc (m ((c : Thread nD τ).loc main_arg1)) := by
  refine (dats m 0 c).arrAt_eq_of_covers 5 _ (by decide +kernel) fun t _ y => ?_
  blk_simp
  rw [after0_5]
  simp only [outsAt0]
  obtain ⟨r, n, rfl⟩ : ∃ (r : Fin 256) (n : Fin 6), y = ix2 r n := ⟨y 0, y 1, eq_ix2 y⟩
  have ht : t.val < 128 := N_eq ▸ t.isLt
  have e : (win0_5.blk t).view.emb (ix2 r n) = ix2 (⟨t.val * 256 + r.val, by omega⟩ : Fin 32768) n := by
    blk_ext [idx t]
  rw [e]
  refine (block5 ..).trans ?_
  rw [grp1 m c t r (by omega)]
  rfl

end Cert.DxIdeal.ArrayValue

end
-- ==== Proof.DxRef.lean ====
/- What the backward reference computes at an index: the product of the quantised rows, the codes and the scales. -/
module
public import proofs.«01_k».proof.Proof.Gen.DxRefIdeal.Value
public import proofs.«01_k».proof.Proof.RefOps
@[expose] public section
set_option maxRecDepth 16384

noncomputable section

namespace Cert.DxRefIdeal.RefValue

open Cert.DxRefIdeal Cert.DxRefIdeal.Gen Idealize.ShloMosaic Idealize.ShloMosaic.TcCoe Idealize.SL.Sem
open scoped BigOperators

variable (a0 : Vec Ideal S32x6 .f32) (a1 : Vec Ideal S32768x768 .bf16) (a2 : Vec Ideal S4096x768 .fp8e4m3)

/-- The codes, by groups. -/
def cd : FVec Ideal S32768x6x128 .fp8e4m3 := RefOps.cd (R := 32768) (K := 6) (W := 768) a1
  shapeCasts_S32768x768_S32768x6x128 reduces_S32768x6x128_S32768x6 shapeCasts_S32768x6_S32768x6x1 broadcasts_S32768x6x1_S32768x6x128

/-- The scales. -/
def sc : FVec Ideal S32768x6 .f32 := RefOps.sc (R := 32768) (K := 6) (W := 768) a1
  shapeCasts_S32768x768_S32768x6x128 reduces_S32768x6x128_S32768x6 shapeCasts_S32768x6_S32768x6x1 shapeCasts_S32768x6x1_S32768x6

theorem pay5_eq : k0_pay5 a1 = cd a1 := rfl
theorem pay6_eq : k0_pay6 a1 = sc a1 := rfl

/-- The weight's rows by groups. -/
def wb : FVec Ideal S6x4096x128 .fp8e4m3 :=
  transpose S6x4096x128 [1, 0, 2] (shapeCast S4096x6x128 a2 shapeCasts_S4096x768_S4096x6x128) transposes_S4096x6x128_p1_0_2_S6x4096x128

theorem wb_apply (g : Fin 6) (n : Fin 4096) (k : Fin 128) : wb a2 (ix3 g n k) = a2 (ix2 n ⟨128 * g.val + k.val, by omega⟩) :=
  (RefOps.swap3_apply (R := 4096) (K := 6) (n := 128) (shapeCast S4096x6x128 a2 shapeCasts_S4096x768_S4096x6x128) transposes_S4096x6x128_p1_0_2_S6x4096x128 g n k).trans
    (RefOps.split_apply (R := 4096) (K := 6) (W := 768) rfl a2 shapeCasts_S4096x768_S4096x6x128 n g k)

/-- The partial products. -/
def pr : FVec Ideal S6x32768x4096 .f32 :=
  matmul (RefOps.bdotT 6 32768 128 4096 dot_S6x32768x128_S6x4096x128_S6x32768x4096_2_2_1_1_0_0_wf) none
    (transpose S6x32768x128 [1, 0, 2] (cd a1) transposes_S32768x6x128_p1_0_2_S6x32768x128) (wb a2) (constant S6x32768x4096 .f32 0x00000000#32)

theorem pr_apply (g : Fin 6) (r : Fin 32768) (n : Fin 4096) :
    pr a1 a2 (ix3 g r n) = ∑ k : Fin 128, cd a1 (ix3 r g k) * a2 (ix2 n ⟨128 * g.val + k.val, by omega⟩) := by
  refine (RefOps.bdotT_apply (K := 6) (R := 32768) (P := 128) (N := 4096) dot_S6x32768x128_S6x4096x128_S6x32768x4096_2_2_1_1_0_0_wf
    (transpose S6x32768x128 [1, 0, 2] (cd a1) transposes_S32768x6x128_p1_0_2_S6x32768x128) (wb a2) g r n).trans (Finset.sum_congr rfl fun k _ => ?_)
  rw [wb_apply]
  exact congrArg (· * _) (RefOps.swap3_apply (R := 32768) (K := 6) (n := 128) (cd a1) transposes_S32768x6x128_p1_0_2_S6x32768x128 g r k)

/-- The weight's scales repeated over their rows. -/
theorem pay8_apply (g : Fin 6) (n : Fin 4096) : k0_pay8 a0 (ix2 g n) = a0 (ix2 ⟨n.val / 128, by omega⟩ g) :=
  (RefOps.swap_apply (R := 4096) (K := 6) (shapeCast S4096x6 (broadcastTo S32x128x6 (shapeCast S32x1x6 a0 shapeCasts_S32x6_S32x1x6) broadcasts_S32x1x6_S32x128x6) shapeCasts_S32x128x6_S4096x6) transposes_S4096x6_p1_0_S6x4096 g n).trans
    ((RefOps.joinRows_apply (K := 32) (W := 4096) (R := 6) rfl (broadcastTo S32x128x6 (shapeCast S32x1x6 a0 shapeCasts_S32x6_S32x1x6) broadcasts_S32x1x6_S32x128x6) shapeCasts_S32x128x6_S4096x6 n g).trans
      ((RefOps.repMid_apply (R := 32) (K := 6) (n := 128) (shapeCast S32x1x6 a0 shapeCasts_S32x6_S32x1x6) broadcasts_S32x1x6_S32x128x6 _ _ g).trans
        (RefOps.midUnit_apply (R := 32) (K := 6) a0 shapeCasts_S32x6_S32x1x6 _ 0 g)))

theorem pay1_eq : k0_pay1 (k0_pay7 a1 a2) (k0_pay8 a0) (k0_pay9 a1) = RefOps.wsum (K := 6) (R := 32768) (N := 4096) (pr a1 a2) (sc a1) (k0_pay8 a0)
    transposes_S32768x6_p1_0_S6x32768 shapeCasts_S6x32768_S6x32768x1 broadcasts_S6x32768x1_S6x32768x4096 shapeCasts_S6x4096_S6x1x4096
    broadcasts_S6x1x4096_S6x32768x4096 reduces_S6x32768x4096_S32768x4096 := rfl

/-- Every group's largest magnitude is in the range of the scales. -/
def InRange : Prop := ∀ r g, Quant.InRange (Tile.amax (Tile.grp 6 (R := 32768) (W := 768) rfl a1 r g))

variable {a1}

theorem codes_apply (h : InRange a1) (r : Fin 32768) (w : Fin 768) :
    k0_pay2 (k0_pay5 a1) (ix2 r w) = Tile.code (Tile.grp 6 (R := 32768) (W := 768) rfl a1 r ⟨w.val / 128, by omega⟩) ⟨w.val % 128, by omega⟩ := by
  rw [pay5_eq]
  exact RefOps.cd_rows_apply (R := 32768) (K := 6) (W := 768) rfl a1 _ _ _ _ shapeCasts_S32768x6x128_S32768x768 r w (h r)

theorem scales_apply (h : InRange a1) (r : Fin 32768) (g : Fin 6) :
    k0_pay6 a1 (ix2 r g) = Quant.kscale (Tile.gt (Tile.grp 6 (R := 32768) (W := 768) rfl a1 r g)) := by
  rw [pay6_eq]
  exact RefOps.sc_apply (R := 32768) (K := 6) (W := 768) rfl a1 _ _ _ _ r g (h r g)

theorem prod_apply (h : InRange a1) (r : Fin 32768) (n : Fin 4096) :
    k0_pay1 (k0_pay7 a1 a2) (k0_pay8 a0) (k0_pay9 a1) (ix2 r n)
      = Tile.prod (Tile.grp 6 (R := 32768) (W := 768) rfl a1 r) (fun g k => a2 (ix2 n ⟨128 * g.val + k.val, by omega⟩)) (fun g => a0 (ix2 ⟨n.val / 128, by omega⟩ g)) := by
  rw [pay1_eq]
  refine (RefOps.wsum_apply (K := 6) (R := 32768) (N := 4096) (pr a1 a2) (sc a1) (k0_pay8 a0) _ _ _ _ _ _ r n).trans (Finset.sum_congr rfl fun g _ => ?_)
  rw [pay8_apply, pr_apply, ← pay6_eq, scales_apply h]
  refine congrArg (· * _) (Finset.sum_congr rfl fun k _ => (congrArg (· * _) ?_).trans (mul_comm _ _))
  exact RefOps.cd_apply (R := 32768) (K := 6) (W := 768) rfl a1 _ _ _ _ r g k (h r g)

end Cert.DxRefIdeal.RefValue
-- ==== Proof.DxTie.lean ====
/- The backward kernel and its reference leave the same arrays, when every group's largest magnitude is in range. -/
module
public import proofs.«01_k».proof.Proof.DxValue
public import proofs.«01_k».proof.Proof.DxRef
public import proofs.«01_k».proof.Proof.Gen.Pre_dy_range
@[expose] public section
set_option maxRecDepth 16384

noncomputable section

namespace Cert.DxTie

open Idealize.ShloMosaic Cert.DxRefIdeal.RefValue Cert.DxIdeal.ArrayValue

variable (a0 : Vec Ideal Cert.DxIdeal.S32x6 .f32) (a1 : Vec Ideal Cert.DxIdeal.S32768x768 .bf16) (a2 : Vec Ideal Cert.DxIdeal.S4096x768 .fp8e4m3)

/-- What the printed condition says of `dy`. -/
theorem inRange (h : Cert.Pre_dy_range.fn (F := Ideal) a0 a1 a2 = fun _ => 1#1) : InRange a1 := fun r g =>
  RefOps.inRange_of_pre (R := 32768) (K := 6) (W := 768) rfl a1 _ _ _ _ h r g

variable {a1}

theorem prod_eq (h : InRange a1) : Y a0 a1 a2 = Cert.DxRefIdeal.Value.G3 a0 a1 a2 := funext fun j => by
  obtain ⟨r, n, rfl⟩ : ∃ (r : Fin 32768) (n : Fin 4096), j = ix2 r n := ⟨j 0, j 1, eq_ix2 j⟩
  exact (prod_apply a0 a2 h r n).symm

theorem codes_eq (h : InRange a1) : Q a1 = Cert.DxRefIdeal.Value.G4 a0 a1 a2 := funext fun j => by
  obtain ⟨r, n, rfl⟩ : ∃ (r : Fin 32768) (n : Fin 768), j = ix2 r n := ⟨j 0, j 1, eq_ix2 j⟩
  exact (codes_apply h r n).symm

theorem scales_eq (h : InRange a1) : Sc a1 = Cert.DxRefIdeal.Value.G5 a0 a1 a2 := funext fun j => by
  obtain ⟨r, n, rfl⟩ : ∃ (r : Fin 32768) (n : Fin 6), j = ix2 r n := ⟨j 0, j 1, eq_ix2 j⟩
  exact (scales_apply h r n).symm

end Cert.DxTie

end
-- ==== Proof.DxPair.lean ====
/- The backward kernel and its reference, run on the same arguments, end with the same results. -/
module
public import proofs.«01_k».proof.Defs
public import proofs.«01_k».proof.Proof.DxTie
@[expose] public section

noncomputable section

namespace Cert.DxTie

open Idealize.ShloMosaic Idealize.ShloMosaic.TcCoe Idealize.SL.Sem

theorem algebraic : Cert.algebraic_DxIdeal_DxRefIdeal_pre_dy_range := fun m g m' g' hpre hargs => by
  have hr (c) := inRange _ _ _ (hpre c)
  refine ⟨_, _, _, (θ_run _ _ _).mono (fun r h c => ⟨(h c).1.trans (Cert.DxIdeal.ArrayValue.final3 m c), (h c).2.1.trans (Cert.DxIdeal.ArrayValue.final4 m c),
    (h c).2.2.1.trans (Cert.DxIdeal.ArrayValue.final5 m c), (h c).2.2.2⟩) (Cert.DxIdeal.Value.run_blocks m g),
    (θ_run _ _ _).mono (fun r h c => ⟨(h c).1.trans ?_, (h c).2.1.trans ?_, (h c).2.2.1.trans ?_, (h c).2.2.2⟩) (Cert.DxRefIdeal.Value.run m' g')⟩
  · rw [(hargs c).1, (hargs c).2.1, (hargs c).2.2]
    exact (prod_eq _ _ (hr c)).symm
  · rw [(hargs c).1, (hargs c).2.1, (hargs c).2.2]
    exact (codes_eq _ _ (hr c)).symm
  · rw [(hargs c).1, (hargs c).2.1, (hargs c).2.2]
    exact (scales_eq _ _ (hr c)).symm

end Cert.DxTie

end
-- ==== Proof.lean ====
module

public import proofs.«01_k».proof.Defs
public import proofs.«01_k».proof.Proof.Gen.Wquant
public import proofs.«01_k».proof.Proof.Gen.Wquant.Skeleton
public import proofs.«01_k».proof.Proof.Gen.Wquant.Launch
public import proofs.«01_k».proof.Proof.Gen.Wquant.Points
public import proofs.«01_k».proof.Proof.Gen.Wquant.Frame
public import proofs.«01_k».proof.Proof.Gen.WquantIdeal
public import proofs.«01_k».proof.Proof.Gen.WquantIdeal.Skeleton
public import proofs.«01_k».proof.Proof.Gen.WquantIdeal.Launch
public import proofs.«01_k».proof.Proof.Gen.WquantIdeal.Points
public import proofs.«01_k».proof.Proof.Gen.WquantIdeal.Frame
public import proofs.«01_k».proof.Proof.Gen.WquantRefIdeal
public import proofs.«01_k».proof.Proof.Gen.WquantRefIdeal.Skeleton
public import proofs.«01_k».proof.Proof.Gen.WquantRefIdeal.Launch
public import proofs.«01_k».proof.Proof.Gen.WquantRefIdeal.Points
public import proofs.«01_k».proof.Proof.Gen.WquantRefIdeal.Frame
public import proofs.«01_k».proof.Proof.Gen.WquantRefIdeal.Value
public import proofs.«01_k».proof.Proof.Gen.Fwd
public import proofs.«01_k».proof.Proof.Gen.Fwd.Skeleton
public import proofs.«01_k».proof.Proof.Gen.Fwd.Launch
public import proofs.«01_k».proof.Proof.Gen.Fwd.Points
public import proofs.«01_k».proof.Proof.Gen.Fwd.Frame
public import proofs.«01_k».proof.Proof.Gen.FwdIdeal
public import proofs.«01_k».proof.Proof.Gen.FwdIdeal.Skeleton
public import proofs.«01_k».proof.Proof.Gen.FwdIdeal.Launch
public import proofs.«01_k».proof.Proof.Gen.FwdIdeal.Points
public import proofs.«01_k».proof.Proof.Gen.FwdIdeal.Frame
public import proofs.«01_k».proof.Proof.Gen.FwdIdeal.Value
public import proofs.«01_k».proof.Proof.Gen.FwdRefIdeal
public import proofs.«01_k».proof.Proof.Gen.FwdRefIdeal.Skeleton
public import proofs.«01_k».proof.Proof.Gen.FwdRefIdeal.Launch
public import proofs.«01_k».proof.Proof.Gen.FwdRefIdeal.Points
public import proofs.«01_k».proof.Proof.Gen.FwdRefIdeal.Frame
public import proofs.«01_k».proof.Proof.Gen.FwdRefIdeal.Value
public import proofs.«01_k».proof.Proof.Gen.Dx
public import proofs.«01_k».proof.Proof.Gen.Dx.Skeleton
public import proofs.«01_k».proof.Proof.Gen.Dx.Launch
public import proofs.«01_k».proof.Proof.Gen.Dx.Points
public import proofs.«01_k».proof.Proof.Gen.Dx.Frame
public import proofs.«01_k».proof.Proof.Gen.DxIdeal
public import proofs.«01_k».proof.Proof.Gen.DxIdeal.Skeleton
public import proofs.«01_k».proof.Proof.Gen.DxIdeal.Launch
public import proofs.«01_k».proof.Proof.Gen.DxIdeal.Points
public import proofs.«01_k».proof.Proof.Gen.DxIdeal.Frame
public import proofs.«01_k».proof.Proof.Gen.DxIdeal.Value
public import proofs.«01_k».proof.Proof.Gen.DxRefIdeal
public import proofs.«01_k».proof.Proof.Gen.DxRefIdeal.Skeleton
public import proofs.«01_k».proof.Proof.Gen.DxRefIdeal.Launch
public import proofs.«01_k».proof.Proof.Gen.DxRefIdeal.Points
public import proofs.«01_k».proof.Proof.Gen.DxRefIdeal.Frame
public import proofs.«01_k».proof.Proof.Gen.DxRefIdeal.Value
public import proofs.«01_k».proof.Proof.Gen.Pre_w_range
public import proofs.«01_k».proof.Proof.Gen.Pre_x_range
public import proofs.«01_k».proof.Proof.Gen.Pre_dy_range
public import proofs.«01_k».proof.Proof.WquantBits
public import proofs.«01_k».proof.Proof.WquantPair
public import proofs.«01_k».proof.Proof.FwdPair
public import proofs.«01_k».proof.Proof.DxPair
public import Idealize.ShloMosaic.Adequacy
public import Idealize.ShloMosaic.Init

@[expose] public section

noncomputable section

namespace Cert.Proof

open Idealize.ShloMosaic Idealize.SL.Sem Cert.Fwd

theorem claim : Cert.Claim := ⟨Cert.Wquant.Gen.facts, Cert.WquantIdeal.Gen.facts, Cert.WquantRefIdeal.Gen.facts, Cert.Fwd.Gen.facts, Cert.FwdIdeal.Gen.facts, Cert.FwdRefIdeal.Gen.facts, Cert.Dx.Gen.facts, Cert.DxIdeal.Gen.facts, Cert.DxRefIdeal.Gen.facts, Cert.Pre_w_range.Gen.facts, Cert.Pre_x_range.Gen.facts, Cert.Pre_dy_range.Gen.facts,
  Cert.WquantIdeal.Block.frame_bits,
  fun m ρ _ => Cert.WquantIdeal.Block.frame m ρ,
  fun m ρ _ => Cert.WquantIdeal.Block.frame m ρ,
  fun m ρ _ => Cert.WquantRefIdeal.Gen.frame m ρ,
  fun m ρ _ => Cert.WquantRefIdeal.Gen.frame m ρ,
  fun m ρ _ => Cert.Fwd.Gen.frame m ρ,
  fun m ρ _ => Cert.FwdIdeal.Gen.frame m ρ,
  fun m ρ _ => Cert.FwdIdeal.Gen.frame m ρ,
  fun m ρ _ => Cert.FwdRefIdeal.Gen.frame m ρ,
  fun m ρ _ => Cert.FwdRefIdeal.Gen.frame m ρ,
  fun m ρ _ => Cert.Dx.Gen.frame m ρ,
  fun m ρ _ => Cert.DxIdeal.Gen.frame m ρ,
  fun m ρ _ => Cert.DxIdeal.Gen.frame m ρ,
  fun m ρ _ => Cert.DxRefIdeal.Gen.frame m ρ,
  fun m ρ _ => Cert.DxRefIdeal.Gen.frame m ρ,
  trivial,
  Cert.WquantTie.algebraic,
  trivial,
  Cert.FwdTie.algebraic,
  trivial,
  Cert.DxTie.algebraic⟩

end Cert.Proof

end
